-- ==== Defs.lean ====
def Pre_Kernel [hPre_graphs_in_range : Cert.Pre_graphs_in_range.Facts] (m : (ℓ : Loc Cert.Kernel.nD Cert.Kernel.τ Cert.Kernel.sig) → Buf (Elt Bits) ℓ) : Prop :=
  ∀ c : Dev Cert.Kernel.nD,
    (Cert.Pre_graphs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_graphs_in_range : Cert.Pre_graphs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_graphs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_KernelIdeal_finite_and_in_range [hPre_finite_and_in_range : Cert.Pre_finite_and_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_in_range [hPre_finite_and_in_range : Cert.Pre_finite_and_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] [hPre_graphs_in_range : Cert.Pre_graphs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_graphs_in_range : Cert.Pre_graphs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_and_in_range [hKernelIdeal : Cert.KernelIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_and_in_range [hReferenceIdeal : Cert.ReferenceIdeal.Facts] [hPre_finite_and_in_range : Cert.Pre_finite_and_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_finite_and_in_range [hKernelIdeal : Cert.KernelIdeal.Facts] [hReferenceIdeal : Cert.ReferenceIdeal.Facts] [hPre_finite_and_in_range : Cert.Pre_finite_and_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v368) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_graphs_in_range : Cert.Pre_graphs_in_range.Facts) (hPre_finite_and_in_range : Cert.Pre_finite_and_in_range.Facts),
    quiescent_Kernel (hKernel := hKernel) (hPre_graphs_in_range := hPre_graphs_in_range)
    ∧ quiescent_KernelIdeal (hKernelIdeal := hKernelIdeal) (hPre_graphs_in_range := hPre_graphs_in_range)
    ∧ quiescent_KernelIdeal_pre_finite_and_in_range (hKernelIdeal := hKernelIdeal) (hPre_finite_and_in_range := hPre_finite_and_in_range)
    ∧ quiescent_ReferenceIdeal (hReferenceIdeal := hReferenceIdeal)
    ∧ quiescent_ReferenceIdeal_pre_finite_and_in_range (hReferenceIdeal := hReferenceIdeal) (hPre_finite_and_in_range := hPre_finite_and_in_range)
    ∧ preserves_Kernel_KernelIdeal
    ∧ algebraic_KernelIdeal_ReferenceIdeal_pre_finite_and_in_range (hKernelIdeal := hKernelIdeal) (hReferenceIdeal := hReferenceIdeal) (hPre_finite_and_in_range := hPre_finite_and_in_range)
-- ==== Pre_finite_and_in_range.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩

class Facts : Prop where
  bcast_S_S100000 : S_.BroadcastsInDim S100000 (![] : Fin 0 → Fin S100000.rank)
  reducesTo_S100000_S_d0 : S100000.ReducesTo [0] S_
  h_S_ : 0 < S_.numel
  bcast_S_S100000x128 : S_.BroadcastsInDim S100000x128 (![] : Fin 0 → Fin S100000x128.rank)
  reducesTo_S100000x128_S_d0_1 : S100000x128.ReducesTo [0, 1] S_

variable [Facts]

def fn {F : FTy → Type} [FloatOps F] (main_arg0 : FVec F S100000x128 .f32) (main_arg1 : IVec S100000 32) (main_arg2 : FVec F S512x256 .f32) (main_arg3 : FVec F S512x128 .f32) (main_arg4 : FVec F S512 .f32) (main_arg5 : FVec F S512 .f32) : IVec S_ 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  let main_c_1 : IVec S_ 1 := constantI S_ 1 1#1
  let main_v5 : IVec S_ 1 := (fun x v => Host.reduce IntOp.andi x v reducesTo_S100000_S_d0 h_S_) main_v4 main_c_1
  let main_cst : FVec F S_ .f32 := constant S_ .f32 0xFF800000#32
  let main_v6 : FVec F S100000x128 .f32 := broadcastInDim S100000x128 ![] bcast_S_S100000x128 main_cst
  let main_v7 : IVec S100000x128 1 := cmpf .ogt main_arg0 main_v6
  let main_cst_2 : FVec F S_ .f32 := constant S_ .f32 0x7F800000#32
  let main_v8 : FVec F S100000x128 .f32 := broadcastInDim S100000x128 ![] bcast_S_S100000x128 main_cst_2
  let main_v9 : IVec S100000x128 1 := cmpf .olt main_arg0 main_v8
  let main_v10 : IVec S100000x128 1 := andi main_v7 main_v9
  let main_c_3 : IVec S_ 1 := constantI S_ 1 1#1
  let main_v11 : IVec S_ 1 := (fun x v => Host.reduce IntOp.andi x v reducesTo_S100000x128_S_d0_1 h_S_) main_v10 main_c_3
  let main_v12 : IVec S_ 1 := andi main_v5 main_v11
  main_v12
-- ==== Pre_graphs_in_range.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩

class Facts : Prop where
  bcast_S_S100000 : S_.BroadcastsInDim S100000 (![] : Fin 0 → Fin S100000.rank)

variable [Facts]

def fn {F : FTy → Type} [FloatOps F] (main_arg0 : FVec F S100000x128 .f32) (main_arg1 : IVec S100000 32) (main_arg2 : FVec F S512x256 .f32) (main_arg3 : FVec F S512x128 .f32) (main_arg4 : FVec F S512 .f32) (main_arg5 : FVec F S512 .f32) : IVec S100000 1 :=
  let main_c : IVec S_ 32 := constantI S_ 32 0#32
  let main_v0 : IVec S100000 32 := broadcastInDim S100000 ![] bcast_S_S100000 main_c
  let main_v1 : IVec S100000 1 := cmpi .sge main_arg1 main_v0
  let main_c_0 : IVec S_ 32 := constantI S_ 32 512#32
  let main_v2 : IVec S100000 32 := broadcastInDim S100000 ![] bcast_S_S100000 main_c_0
  let main_v3 : IVec S100000 1 := cmpi .slt main_arg1 main_v2
  let main_v4 : IVec S100000 1 := andi main_v1 main_v3
  main_v4
-- ==== Kernel.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S50x2000x128 : Shape := ⟨3, ![50, 2000, 128]⟩
abbrev S50x1x2000 : Shape := ⟨3, ![50, 1, 2000]⟩
abbrev S1x512 : Shape := ⟨2, ![1, 512]⟩
abbrev S512x1 : Shape := ⟨2, ![512, 1]⟩
abbrev S32x2000 : Shape := ⟨2, ![32, 2000]⟩
abbrev S512x2000 : Shape := ⟨2, ![512, 2000]⟩
abbrev S1x2000x128 : Shape := ⟨3, ![1, 2000, 128]⟩
abbrev S2000x128 : Shape := ⟨2, ![2000, 128]⟩
abbrev S1x1x2000 : Shape := ⟨3, ![1, 1, 2000]⟩
abbrev S1x2000 : Shape := ⟨2, ![1, 2000]⟩
abbrev S1 : Shape := ⟨1, ![1]⟩
abbrev S1x1x1 : Shape := ⟨3, ![1, 1, 1]⟩
abbrev S32x128 : Shape := ⟨2, ![32, 128]⟩
abbrev S2000 : Shape := ⟨1, ![2000]⟩
abbrev S32 : Shape := ⟨1, ![32]⟩
abbrev S32x1 : Shape := ⟨2, ![32, 1]⟩
abbrev S512x512 : Shape := ⟨2, ![512, 512]⟩

abbrev nBuf : Space → Nat
  | .hbm => 11
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S100000, .i32⟩
  | .hbm, ⟨2, _⟩ => ⟨S512x256, .f32⟩
  | .hbm, ⟨3, _⟩ => ⟨S512x128, .f32⟩
  | .hbm, ⟨4, _⟩ => ⟨S512, .f32⟩
  | .hbm, ⟨5, _⟩ => ⟨S512, .f32⟩
  | .hbm, ⟨6, _⟩ => ⟨S50x2000x128, .f32⟩
  | .hbm, ⟨7, _⟩ => ⟨S50x1x2000, .i32⟩
  | .hbm, ⟨8, _⟩ => ⟨S512, .f32⟩
  | .hbm, ⟨9, _⟩ => ⟨S1x512, .f32⟩
  | .hbm, ⟨10, _⟩ => ⟨S512x256, .f32⟩
  | .local _ .vmem, ⟨0, _⟩ => ⟨S50x2000x128, .f32⟩
  | .local _ .vmem, ⟨1, _⟩ => ⟨S50x1x2000, .i32⟩
  | .local _ .vmem, ⟨2, _⟩ => ⟨S512x256, .f32⟩
  | .local _ .vmem, ⟨3, _⟩ => ⟨S512x128, .f32⟩
  | .local _ .vmem, ⟨4, _⟩ => ⟨S1x512, .f32⟩
  | .local _ .vmem, ⟨5, _⟩ => ⟨S512x256, .f32⟩
  | .local _ .vmem, ⟨6, _⟩ => ⟨S512x128, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_v0 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c50_i32 : BitVec 32 := 50#32
  let v28 : BitVec 32 := Scalar.addi c0_i32 c50_i32
  let c1_i32 : BitVec 32 := 1#32
  ⟨c0_i32, v28, c1_i32⟩
def k0_off1 (k0_t1 : Fin k0_t1_loop.trips) : Fin 3 → Nat :=
  let c0_i32 : BitVec 32 := 0#32
  let c1_i32 : BitVec 32 := 1#32
  let arg11 : BitVec 32 := Scf.iv c0_i32 c1_i32 k0_t1
  let v239 : Index := Scalar.indexCast arg11
  let c0_133 : Index := 0#32
  let c0_134 : Index := 0#32
  ![v239.toNat, 0, 0]
def k0_off2 (k0_t1 : Fin k0_t1_loop.trips) : Fin 3 → Nat :=
  let c0_i32 : BitVec 32 := 0#32
  let c1_i32 : BitVec 32 := 1#32
  let arg11 : BitVec 32 := Scf.iv c0_i32 c1_i32 k0_t1
  let v242 : Index := Scalar.indexCast arg11
  let c0_135 : Index := 0#32
  let c0_136 : Index := 0#32
  ![v242.toNat, 0, 0]
def k0_off3 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v283 : Index := Scalar.indexCast v267
  let c0_148 : Index := 0#32
  ![v283.toNat, 0]
def k0_cond1 (v248 : BitVec 32) (v271 : BitVec 32) : BitVec 1 :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v272 : BitVec 32 := Scalar.subi v271 v267
  let c32_i32 : BitVec 32 := 32#32
  let v273 : BitVec 1 := Scalar.cmpi .sge v272 c32_i32
  let v_true : BitVec 1 := 1#1
  let v274 : BitVec 1 := Scalar.xori v273 v_true
  let v275 : BitVec 32 := Scalar.extui v274
  let c0_i32_146 : BitVec 32 := 0#32
  let v276 : BitVec 1 := Scalar.cmpi .ne v275 c0_i32_146
  v276

def k0_off4 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v294 : Index := Scalar.indexCast v267
  let c0_154 : Index := 0#32
  ![v294.toNat, 0]

def k0_chk1 (v248 : BitVec 32) (v271 : BitVec 32) : Prop :=
  (∀ (k0_h1 : k0_cond1 v248 v271 = 1#1), ∀ a, (k0_off3 v248) a + S32x128.size a ≤ S512x128.size a) ∧
  (∀ (k0_h1 : k0_cond1 v248 v271 = 1#1), ∀ a, (k0_off4 v248) a + S32x1.size a ≤ S512x1.size a)
theorem k0_off3_inb : ∀ (v248 : BitVec 32) (v271 : BitVec 32) (k0_hw1 : k0_chk1 v248 v271), ∀ (k0_h1 : k0_cond1 v248 v271 = 1#1), ∀ a, (k0_off3 v248) a + S32x128.size a ≤ S512x128.size a := fun v248 v271 k0_hw1 k0_h1 => k0_hw1.1 k0_h1
theorem k0_off4_inb : ∀ (v248 : BitVec 32) (v271 : BitVec 32) (k0_hw1 : k0_chk1 v248 v271), ∀ (k0_h1 : k0_cond1 v248 v271 = 1#1), ∀ a, (k0_off4 v248) a + S32x1.size a ≤ S512x1.size a := fun v248 v271 k0_hw1 k0_h1 => k0_hw1.2 k0_h1

@[reducible] def k0_t2_loop : Scf.Loop 32 :=
  let c0_i32_48 : BitVec 32 := 0#32
  let c50_i32_49 : BitVec 32 := 50#32
  let v83 : BitVec 32 := Scalar.addi c0_i32_48 c50_i32_49
  let c1_i32_50 : BitVec 32 := 1#32
  ⟨c0_i32_48, v83, c1_i32_50⟩
def k0_off5 (k0_t2 : Fin k0_t2_loop.trips) : Fin 3 → Nat :=
  let c0_i32_48 : BitVec 32 := 0#32
  let c1_i32_50 : BitVec 32 := 1#32
  let arg11 : BitVec 32 := Scf.iv c0_i32_48 c1_i32_50 k0_t2
  let v239 : Index := Scalar.indexCast arg11
  let c0_133 : Index := 0#32
  let c0_134 : Index := 0#32
  ![v239.toNat, 0, 0]
def k0_off6 (k0_t2 : Fin k0_t2_loop.trips) : Fin 3 → Nat :=
  let c0_i32_48 : BitVec 32 := 0#32
  let c1_i32_50 : BitVec 32 := 1#32
  let arg11 : BitVec 32 := Scf.iv c0_i32_48 c1_i32_50 k0_t2
  let v242 : Index := Scalar.indexCast arg11
  let c0_135 : Index := 0#32
  let c0_136 : Index := 0#32
  ![v242.toNat, 0, 0]
def k0_off7 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v283 : Index := Scalar.indexCast v267
  let c0_148 : Index := 0#32
  ![v283.toNat, 0]
def k0_cond3 (v248 : BitVec 32) (v271 : BitVec 32) : BitVec 1 :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v272 : BitVec 32 := Scalar.subi v271 v267
  let c32_i32 : BitVec 32 := 32#32
  let v273 : BitVec 1 := Scalar.cmpi .sge v272 c32_i32
  let v_true : BitVec 1 := 1#1
  let v274 : BitVec 1 := Scalar.xori v273 v_true
  let v275 : BitVec 32 := Scalar.extui v274
  let c0_i32_146 : BitVec 32 := 0#32
  let v276 : BitVec 1 := Scalar.cmpi .ne v275 c0_i32_146
  v276

def k0_off8 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v294 : Index := Scalar.indexCast v267
  let c0_154 : Index := 0#32
  ![v294.toNat, 0]

def k0_chk2 (v248 : BitVec 32) (v271 : BitVec 32) : Prop :=
  (∀ (k0_h3 : k0_cond3 v248 v271 = 1#1), ∀ a, (k0_off7 v248) a + S32x128.size a ≤ S512x128.size a) ∧
  (∀ (k0_h3 : k0_cond3 v248 v271 = 1#1), ∀ a, (k0_off8 v248) a + S32x1.size a ≤ S512x1.size a)
theorem k0_off7_inb : ∀ (v248 : BitVec 32) (v271 : BitVec 32) (k0_hw2 : k0_chk2 v248 v271), ∀ (k0_h3 : k0_cond3 v248 v271 = 1#1), ∀ a, (k0_off7 v248) a + S32x128.size a ≤ S512x128.size a := fun v248 v271 k0_hw2 k0_h3 => k0_hw2.1 k0_h3
theorem k0_off8_inb : ∀ (v248 : BitVec 32) (v271 : BitVec 32) (k0_hw2 : k0_chk2 v248 v271), ∀ (k0_h3 : k0_cond3 v248 v271 = 1#1), ∀ a, (k0_off8 v248) a + S32x1.size a ≤ S512x1.size a := fun v248 v271 k0_hw2 k0_h3 => k0_hw2.2 k0_h3

@[reducible] def k0_t3_loop : Scf.Loop 32 :=
  let c0_i32_78 : BitVec 32 := 0#32
  let c50_i32_79 : BitVec 32 := 50#32
  let v138 : BitVec 32 := Scalar.addi c0_i32_78 c50_i32_79
  let c1_i32_80 : BitVec 32 := 1#32
  ⟨c0_i32_78, v138, c1_i32_80⟩
def k0_off9 (k0_t3 : Fin k0_t3_loop.trips) : Fin 3 → Nat :=
  let c0_i32_78 : BitVec 32 := 0#32
  let c1_i32_80 : BitVec 32 := 1#32
  let arg11 : BitVec 32 := Scf.iv c0_i32_78 c1_i32_80 k0_t3
  let v239 : Index := Scalar.indexCast arg11
  let c0_133 : Index := 0#32
  let c0_134 : Index := 0#32
  ![v239.toNat, 0, 0]
def k0_off10 (k0_t3 : Fin k0_t3_loop.trips) : Fin 3 → Nat :=
  let c0_i32_78 : BitVec 32 := 0#32
  let c1_i32_80 : BitVec 32 := 1#32
  let arg11 : BitVec 32 := Scf.iv c0_i32_78 c1_i32_80 k0_t3
  let v242 : Index := Scalar.indexCast arg11
  let c0_135 : Index := 0#32
  let c0_136 : Index := 0#32
  ![v242.toNat, 0, 0]
def k0_off11 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v283 : Index := Scalar.indexCast v267
  let c0_148 : Index := 0#32
  ![v283.toNat, 0]
def k0_cond5 (v248 : BitVec 32) (v271 : BitVec 32) : BitVec 1 :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v272 : BitVec 32 := Scalar.subi v271 v267
  let c32_i32 : BitVec 32 := 32#32
  let v273 : BitVec 1 := Scalar.cmpi .sge v272 c32_i32
  let v_true : BitVec 1 := 1#1
  let v274 : BitVec 1 := Scalar.xori v273 v_true
  let v275 : BitVec 32 := Scalar.extui v274
  let c0_i32_146 : BitVec 32 := 0#32
  let v276 : BitVec 1 := Scalar.cmpi .ne v275 c0_i32_146
  v276

def k0_off12 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v294 : Index := Scalar.indexCast v267
  let c0_154 : Index := 0#32
  ![v294.toNat, 0]

def k0_chk3 (v248 : BitVec 32) (v271 : BitVec 32) : Prop :=
  (∀ (k0_h5 : k0_cond5 v248 v271 = 1#1), ∀ a, (k0_off11 v248) a + S32x128.size a ≤ S512x128.size a) ∧
  (∀ (k0_h5 : k0_cond5 v248 v271 = 1#1), ∀ a, (k0_off12 v248) a + S32x1.size a ≤ S512x1.size a)
theorem k0_off11_inb : ∀ (v248 : BitVec 32) (v271 : BitVec 32) (k0_hw3 : k0_chk3 v248 v271), ∀ (k0_h5 : k0_cond5 v248 v271 = 1#1), ∀ a, (k0_off11 v248) a + S32x128.size a ≤ S512x128.size a := fun v248 v271 k0_hw3 k0_h5 => k0_hw3.1 k0_h5
theorem k0_off12_inb : ∀ (v248 : BitVec 32) (v271 : BitVec 32) (k0_hw3 : k0_chk3 v248 v271), ∀ (k0_h5 : k0_cond5 v248 v271 = 1#1), ∀ a, (k0_off12 v248) a + S32x1.size a ≤ S512x1.size a := fun v248 v271 k0_hw3 k0_h5 => k0_hw3.2 k0_h5

@[reducible] def k0_t4_loop : Scf.Loop 32 :=
  let c0_i32_108 : BitVec 32 := 0#32
  let c50_i32_109 : BitVec 32 := 50#32
  let v193 : BitVec 32 := Scalar.addi c0_i32_108 c50_i32_109
  let c1_i32_110 : BitVec 32 := 1#32
  ⟨c0_i32_108, v193, c1_i32_110⟩
def k0_off13 (k0_t4 : Fin k0_t4_loop.trips) : Fin 3 → Nat :=
  let c0_i32_108 : BitVec 32 := 0#32
  let c1_i32_110 : BitVec 32 := 1#32
  let arg11 : BitVec 32 := Scf.iv c0_i32_108 c1_i32_110 k0_t4
  let v239 : Index := Scalar.indexCast arg11
  let c0_133 : Index := 0#32
  let c0_134 : Index := 0#32
  ![v239.toNat, 0, 0]
def k0_off14 (k0_t4 : Fin k0_t4_loop.trips) : Fin 3 → Nat :=
  let c0_i32_108 : BitVec 32 := 0#32
  let c1_i32_110 : BitVec 32 := 1#32
  let arg11 : BitVec 32 := Scf.iv c0_i32_108 c1_i32_110 k0_t4
  let v242 : Index := Scalar.indexCast arg11
  let c0_135 : Index := 0#32
  let c0_136 : Index := 0#32
  ![v242.toNat, 0, 0]
def k0_off15 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v283 : Index := Scalar.indexCast v267
  let c0_148 : Index := 0#32
  ![v283.toNat, 0]
def k0_cond7 (v248 : BitVec 32) (v271 : BitVec 32) : BitVec 1 :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v272 : BitVec 32 := Scalar.subi v271 v267
  let c32_i32 : BitVec 32 := 32#32
  let v273 : BitVec 1 := Scalar.cmpi .sge v272 c32_i32
  let v_true : BitVec 1 := 1#1
  let v274 : BitVec 1 := Scalar.xori v273 v_true
  let v275 : BitVec 32 := Scalar.extui v274
  let c0_i32_146 : BitVec 32 := 0#32
  let v276 : BitVec 1 := Scalar.cmpi .ne v275 c0_i32_146
  v276

def k0_off16 (v248 : BitVec 32) : Fin 2 → Nat :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  let v267 : BitVec 32 := Scalar.minsi v266 c480_i32
  let v294 : Index := Scalar.indexCast v267
  let c0_154 : Index := 0#32
  ![v294.toNat, 0]

def k0_chk4 (v248 : BitVec 32) (v271 : BitVec 32) : Prop :=
  (∀ (k0_h7 : k0_cond7 v248 v271 = 1#1), ∀ a, (k0_off15 v248) a + S32x128.size a ≤ S512x128.size a) ∧
  (∀ (k0_h7 : k0_cond7 v248 v271 = 1#1), ∀ a, (k0_off16 v248) a + S32x1.size a ≤ S512x1.size a)
theorem k0_off15_inb : ∀ (v248 : BitVec 32) (v271 : BitVec 32) (k0_hw4 : k0_chk4 v248 v271), ∀ (k0_h7 : k0_cond7 v248 v271 = 1#1), ∀ a, (k0_off15 v248) a + S32x128.size a ≤ S512x128.size a := fun v248 v271 k0_hw4 k0_h7 => k0_hw4.1 k0_h7
theorem k0_off16_inb : ∀ (v248 : BitVec 32) (v271 : BitVec 32) (k0_hw4 : k0_chk4 v248 v271), ∀ (k0_h7 : k0_cond7 v248 v271 = 1#1), ∀ a, (k0_off16 v248) a + S32x1.size a ≤ S512x1.size a := fun v248 v271 k0_hw4 k0_h7 => k0_hw4.2 k0_h7

abbrev stage0_0 : Fin 1 → Memref sig .tc .vmem S50x2000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S50x1x2000 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S100000x128 : Shape := ⟨2, ![100000, 128]⟩
abbrev S100000 : Shape := ⟨1, ![100000]⟩
abbrev S512x256 : Shape := ⟨2, ![512, 256]⟩
abbrev S512x128 : Shape := ⟨2, ![512, 128]⟩
abbrev S512 : Shape := ⟨1, ![512]⟩
abbrev S_ : Shape := ⟨0, ![]⟩
abbrev S100000x1 : Shape := ⟨2, ![100000, 1]⟩
abbrev S512x100000 : Shape := ⟨2, ![512, 100000]⟩
abbrev S1x100000 : Shape := ⟨2, ![1, 100000]⟩
abbrev S512x1 : Shape := ⟨2, ![512, 1]⟩
abbrev S256x512 : Shape := ⟨2, ![256, 512]⟩
abbrev S512x512 : Shape := ⟨2, ![512, 512]⟩
abbrev S128x512 : Shape := ⟨2, ![128, 512]⟩
abbrev S1x512 : Shape := ⟨2, ![1, 512]⟩

abbrev nBuf : Space → Nat
  | .hbm => 485
  | .vmem => 0
  | .smem => 0
  | _ => 0

abbrev hbmTy0_0 (i : Nat) : BufTy := match i % 128 with
  | 0 => ⟨S100000x128, .f32⟩
  | 1 => ⟨S100000, .i32⟩
  | 2 => ⟨S512x256, .f32⟩
  | 3 => ⟨S512x128, .f32⟩
  | 4 => ⟨S512, .f32⟩
  | 5 => ⟨S512, .f32⟩
  | 6 => ⟨S_, .f32⟩
  | 7 => ⟨S100000, .f32⟩
  | 8 => ⟨S_, .f32⟩
  | 9 => ⟨S512, .f32⟩
  | 10 => ⟨S100000x1, .i32⟩
  | 11 => ⟨S512, .f32⟩
  | 12 => ⟨S512x100000, .i32⟩
  | 13 => ⟨S1x100000, .i32⟩
  | 14 => ⟨S512x100000, .i32⟩
  | 15 => ⟨S512x100000, .i1⟩
  | 16 => ⟨S_, .f32⟩
  | 17 => ⟨S512x128, .f32⟩
  | 18 => ⟨S_, .f32⟩
  | 19 => ⟨S512x128, .f32⟩
  | 20 => ⟨S_, .f32⟩
  | 21 => ⟨S512x128, .f32⟩
  | 22 => ⟨S_, .f32⟩
  | 23 => ⟨S512x128, .f32⟩
  | 24 => ⟨S_, .i32⟩
  | 25 => ⟨S100000, .i32⟩
  | 26 => ⟨S100000, .i1⟩
  | 27 => ⟨S_, .i32⟩
  | 28 => ⟨S100000, .i32⟩
  | 29 => ⟨S100000, .i32⟩
  | 30 => ⟨S100000, .i32⟩
  | 31 => ⟨S100000x1, .i32⟩
  | 32 => ⟨S100000x128, .f32⟩
  | 33 => ⟨S100000x128, .f32⟩
  | 34 => ⟨S_, .f32⟩
  | 35 => ⟨S100000, .f32⟩
  | 36 => ⟨S1x100000, .f32⟩
  | 37 => ⟨S_, .f32⟩
  | 38 => ⟨S_, .f32⟩
  | 39 => ⟨S512x100000, .f32⟩
  | 40 => ⟨S512x100000, .f32⟩
  | 41 => ⟨S512x100000, .f32⟩
  | 42 => ⟨S_, .f32⟩
  | 43 => ⟨S512, .f32⟩
  | 44 => ⟨S_, .f32⟩
  | 45 => ⟨S512, .f32⟩
  | 46 => ⟨S512, .i1⟩
  | 47 => ⟨S_, .f32⟩
  | 48 => ⟨S512, .f32⟩
  | 49 => ⟨S512, .i1⟩
  | 50 => ⟨S512, .i1⟩
  | 51 => ⟨S_, .f32⟩
  | 52 => ⟨S_, .f32⟩
  | 53 => ⟨S512, .f32⟩
  | 54 => ⟨S512, .f32⟩
  | 55 => ⟨S_, .i32⟩
  | 56 => ⟨S100000, .i32⟩
  | 57 => ⟨S100000, .i1⟩
  | 58 => ⟨S_, .i32⟩
  | 59 => ⟨S100000, .i32⟩
  | 60 => ⟨S100000, .i32⟩
  | 61 => ⟨S100000, .i32⟩
  | 62 => ⟨S100000x1, .i32⟩
  | 63 => ⟨S100000, .f32⟩
  | 64 => ⟨S100000, .f32⟩
  | 65 => ⟨S100000, .f32⟩
  | 66 => ⟨S_, .f32⟩
  | 67 => ⟨S512, .f32⟩
  | 68 => ⟨S100000x1, .i32⟩
  | 69 => ⟨S512, .f32⟩
  | 70 => ⟨S_, .i32⟩
  | 71 => ⟨S100000, .i32⟩
  | 72 => ⟨S100000, .i1⟩
  | 73 => ⟨S_, .i32⟩
  | 74 => ⟨S100000, .i32⟩
  | 75 => ⟨S100000, .i32⟩
  | 76 => ⟨S100000, .i32⟩
  | 77 => ⟨S100000x1, .i32⟩
  | 78 => ⟨S100000, .f32⟩
  | 79 => ⟨S100000, .f32⟩
  | 80 => ⟨S100000x1, .f32⟩
  | 81 => ⟨S100000x128, .f32⟩
  | 82 => ⟨S100000x128, .f32⟩
  | 83 => ⟨S_, .f32⟩
  | 84 => ⟨S512x128, .f32⟩
  | 85 => ⟨S100000x1, .i32⟩
  | 86 => ⟨S512x128, .f32⟩
  | 87 => ⟨S_, .f32⟩
  | 88 => ⟨S512, .f32⟩
  | 89 => ⟨S512, .f32⟩
  | 90 => ⟨S512x1, .f32⟩
  | 91 => ⟨S512x128, .f32⟩
  | 92 => ⟨S512x128, .f32⟩
  | 93 => ⟨S512x256, .f32⟩
  | 94 => ⟨S256x512, .f32⟩
  | 95 => ⟨S512x512, .f32⟩
  | 96 => ⟨S128x512, .f32⟩
  | 97 => ⟨S512x512, .f32⟩
  | 98 => ⟨S512x512, .f32⟩
  | 99 => ⟨S1x512, .f32⟩
  | 100 => ⟨S512x512, .f32⟩
  | 101 => ⟨S512x512, .f32⟩
  | 102 => ⟨S1x512, .f32⟩
  | 103 => ⟨S512x512, .f32⟩
  | 104 => ⟨S512x512, .f32⟩
  | 105 => ⟨S512x128, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S_, .f32⟩
  | 112 => ⟨S512x128, .f32⟩
  | 113 => ⟨S512x128, .f32⟩
  | 114 => ⟨S_, .f32⟩
  | 115 => ⟨S512x128, .f32⟩
  | 116 => ⟨S512x128, .f32⟩
  | 117 => ⟨S512x128, .f32⟩
  | 118 => ⟨S512x128, .f32⟩
  | 119 => ⟨S_, .f32⟩
  | 120 => ⟨S512x128, .f32⟩
  | 121 => ⟨S512x128, .f32⟩
  | 122 => ⟨S_, .f32⟩
  | 123 => ⟨S512x128, .f32⟩
  | 124 => ⟨S512x128, .f32⟩
  | 125 => ⟨S512x128, .f32⟩
  | 126 => ⟨S512x128, .f32⟩
  | 127 => ⟨S512x128, .f32⟩
  | _ => ⟨S100000x128, .f32⟩

abbrev hbmTy0_1 (i : Nat) : BufTy := match i % 128 with
  | 0 => ⟨S_, .f32⟩
  | 1 => ⟨S512x128, .f32⟩
  | 2 => ⟨S512x128, .f32⟩
  | 3 => ⟨S_, .f32⟩
  | 4 => ⟨S512x128, .f32⟩
  | 5 => ⟨S512x128, .f32⟩
  | 6 => ⟨S512x128, .f32⟩
  | 7 => ⟨S512x128, .f32⟩
  | 8 => ⟨S512x128, .f32⟩
  | 9 => ⟨S512x128, .f32⟩
  | 10 => ⟨S512x128, .f32⟩
  | 11 => ⟨S_, .i32⟩
  | 12 => ⟨S100000, .i32⟩
  | 13 => ⟨S100000, .i1⟩
  | 14 => ⟨S_, .i32⟩
  | 15 => ⟨S100000, .i32⟩
  | 16 => ⟨S100000, .i32⟩
  | 17 => ⟨S100000, .i32⟩
  | 18 => ⟨S100000x1, .i32⟩
  | 19 => ⟨S100000x128, .f32⟩
  | 20 => ⟨S100000x128, .f32⟩
  | 21 => ⟨S_, .f32⟩
  | 22 => ⟨S100000, .f32⟩
  | 23 => ⟨S1x100000, .f32⟩
  | 24 => ⟨S_, .f32⟩
  | 25 => ⟨S_, .f32⟩
  | 26 => ⟨S512x100000, .f32⟩
  | 27 => ⟨S512x100000, .f32⟩
  | 28 => ⟨S512x100000, .f32⟩
  | 29 => ⟨S_, .f32⟩
  | 30 => ⟨S512, .f32⟩
  | 31 => ⟨S_, .f32⟩
  | 32 => ⟨S512, .f32⟩
  | 33 => ⟨S512, .i1⟩
  | 34 => ⟨S_, .f32⟩
  | 35 => ⟨S512, .f32⟩
  | 36 => ⟨S512, .i1⟩
  | 37 => ⟨S512, .i1⟩
  | 38 => ⟨S_, .f32⟩
  | 39 => ⟨S_, .f32⟩
  | 40 => ⟨S512, .f32⟩
  | 41 => ⟨S512, .f32⟩
  | 42 => ⟨S_, .i32⟩
  | 43 => ⟨S100000, .i32⟩
  | 44 => ⟨S100000, .i1⟩
  | 45 => ⟨S_, .i32⟩
  | 46 => ⟨S100000, .i32⟩
  | 47 => ⟨S100000, .i32⟩
  | 48 => ⟨S100000, .i32⟩
  | 49 => ⟨S100000x1, .i32⟩
  | 50 => ⟨S100000, .f32⟩
  | 51 => ⟨S100000, .f32⟩
  | 52 => ⟨S100000, .f32⟩
  | 53 => ⟨S_, .f32⟩
  | 54 => ⟨S512, .f32⟩
  | 55 => ⟨S100000x1, .i32⟩
  | 56 => ⟨S512, .f32⟩
  | 57 => ⟨S_, .i32⟩
  | 58 => ⟨S100000, .i32⟩
  | 59 => ⟨S100000, .i1⟩
  | 60 => ⟨S_, .i32⟩
  | 61 => ⟨S100000, .i32⟩
  | 62 => ⟨S100000, .i32⟩
  | 63 => ⟨S100000, .i32⟩
  | 64 => ⟨S100000x1, .i32⟩
  | 65 => ⟨S100000, .f32⟩
  | 66 => ⟨S100000, .f32⟩
  | 67 => ⟨S100000x1, .f32⟩
  | 68 => ⟨S100000x128, .f32⟩
  | 69 => ⟨S100000x128, .f32⟩
  | 70 => ⟨S_, .f32⟩
  | 71 => ⟨S512x128, .f32⟩
  | 72 => ⟨S100000x1, .i32⟩
  | 73 => ⟨S512x128, .f32⟩
  | 74 => ⟨S_, .f32⟩
  | 75 => ⟨S512, .f32⟩
  | 76 => ⟨S512, .f32⟩
  | 77 => ⟨S512x1, .f32⟩
  | 78 => ⟨S512x128, .f32⟩
  | 79 => ⟨S512x128, .f32⟩
  | 80 => ⟨S512x256, .f32⟩
  | 81 => ⟨S256x512, .f32⟩
  | 82 => ⟨S512x512, .f32⟩
  | 83 => ⟨S128x512, .f32⟩
  | 84 => ⟨S512x512, .f32⟩
  | 85 => ⟨S512x512, .f32⟩
  | 86 => ⟨S1x512, .f32⟩
  | 87 => ⟨S512x512, .f32⟩
  | 88 => ⟨S512x512, .f32⟩
  | 89 => ⟨S1x512, .f32⟩
  | 90 => ⟨S512x512, .f32⟩
  | 91 => ⟨S512x512, .f32⟩
  | 92 => ⟨S512x128, .f32⟩
  | 93 => ⟨S512x128, .f32⟩
  | 94 => ⟨S512x128, .f32⟩
  | 95 => ⟨S512x128, .f32⟩
  | 96 => ⟨S512x128, .f32⟩
  | 97 => ⟨S512x128, .f32⟩
  | 98 => ⟨S_, .f32⟩
  | 99 => ⟨S512x128, .f32⟩
  | 100 => ⟨S512x128, .f32⟩
  | 101 => ⟨S_, .f32⟩
  | 102 => ⟨S512x128, .f32⟩
  | 103 => ⟨S512x128, .f32⟩
  | 104 => ⟨S512x128, .f32⟩
  | 105 => ⟨S512x128, .f32⟩
  | 106 => ⟨S_, .f32⟩
  | 107 => ⟨S512x128, .f32⟩
  | 108 => ⟨S512x128, .f32⟩
  | 109 => ⟨S_, .f32⟩
  | 110 => ⟨S512x128, .f32⟩
  | 111 => ⟨S512x128, .f32⟩
  | 112 => ⟨S512x128, .f32⟩
  | 113 => ⟨S512x128, .f32⟩
  | 114 => ⟨S512x128, .f32⟩
  | 115 => ⟨S_, .f32⟩
  | 116 => ⟨S512x128, .f32⟩
  | 117 => ⟨S512x128, .f32⟩
  | 118 => ⟨S_, .f32⟩
  | 119 => ⟨S512x128, .f32⟩
  | 120 => ⟨S512x128, .f32⟩
  | 121 => ⟨S512x128, .f32⟩
  | 122 => ⟨S512x128, .f32⟩
  | 123 => ⟨S512x128, .f32⟩
  | 124 => ⟨S512x128, .f32⟩
  | 125 => ⟨S512x128, .f32⟩
  | 126 => ⟨S_, .i32⟩
  | 127 => ⟨S100000, .i32⟩
  | _ => ⟨S100000x128, .f32⟩

abbrev hbmTy0_2 (i : Nat) : BufTy := match i % 128 with
  | 0 => ⟨S100000, .i1⟩
  | 1 => ⟨S_, .i32⟩
  | 2 => ⟨S100000, .i32⟩
  | 3 => ⟨S100000, .i32⟩
  | 4 => ⟨S100000, .i32⟩
  | 5 => ⟨S100000x1, .i32⟩
  | 6 => ⟨S100000x128, .f32⟩
  | 7 => ⟨S100000x128, .f32⟩
  | 8 => ⟨S_, .f32⟩
  | 9 => ⟨S100000, .f32⟩
  | 10 => ⟨S1x100000, .f32⟩
  | 11 => ⟨S_, .f32⟩
  | 12 => ⟨S_, .f32⟩
  | 13 => ⟨S512x100000, .f32⟩
  | 14 => ⟨S512x100000, .f32⟩
  | 15 => ⟨S512x100000, .f32⟩
  | 16 => ⟨S_, .f32⟩
  | 17 => ⟨S512, .f32⟩
  | 18 => ⟨S_, .f32⟩
  | 19 => ⟨S512, .f32⟩
  | 20 => ⟨S512, .i1⟩
  | 21 => ⟨S_, .f32⟩
  | 22 => ⟨S512, .f32⟩
  | 23 => ⟨S512, .i1⟩
  | 24 => ⟨S512, .i1⟩
  | 25 => ⟨S_, .f32⟩
  | 26 => ⟨S_, .f32⟩
  | 27 => ⟨S512, .f32⟩
  | 28 => ⟨S512, .f32⟩
  | 29 => ⟨S_, .i32⟩
  | 30 => ⟨S100000, .i32⟩
  | 31 => ⟨S100000, .i1⟩
  | 32 => ⟨S_, .i32⟩
  | 33 => ⟨S100000, .i32⟩
  | 34 => ⟨S100000, .i32⟩
  | 35 => ⟨S100000, .i32⟩
  | 36 => ⟨S100000x1, .i32⟩
  | 37 => ⟨S100000, .f32⟩
  | 38 => ⟨S100000, .f32⟩
  | 39 => ⟨S100000, .f32⟩
  | 40 => ⟨S_, .f32⟩
  | 41 => ⟨S512, .f32⟩
  | 42 => ⟨S100000x1, .i32⟩
  | 43 => ⟨S512, .f32⟩
  | 44 => ⟨S_, .i32⟩
  | 45 => ⟨S100000, .i32⟩
  | 46 => ⟨S100000, .i1⟩
  | 47 => ⟨S_, .i32⟩
  | 48 => ⟨S100000, .i32⟩
  | 49 => ⟨S100000, .i32⟩
  | 50 => ⟨S100000, .i32⟩
  | 51 => ⟨S100000x1, .i32⟩
  | 52 => ⟨S100000, .f32⟩
  | 53 => ⟨S100000, .f32⟩
  | 54 => ⟨S100000x1, .f32⟩
  | 55 => ⟨S100000x128, .f32⟩
  | 56 => ⟨S100000x128, .f32⟩
  | 57 => ⟨S_, .f32⟩
  | 58 => ⟨S512x128, .f32⟩
  | 59 => ⟨S100000x1, .i32⟩
  | 60 => ⟨S512x128, .f32⟩
  | 61 => ⟨S_, .f32⟩
  | 62 => ⟨S512, .f32⟩
  | 63 => ⟨S512, .f32⟩
  | 64 => ⟨S512x1, .f32⟩
  | 65 => ⟨S512x128, .f32⟩
  | 66 => ⟨S512x128, .f32⟩
  | 67 => ⟨S512x256, .f32⟩
  | 68 => ⟨S256x512, .f32⟩
  | 69 => ⟨S512x512, .f32⟩
  | 70 => ⟨S128x512, .f32⟩
  | 71 => ⟨S512x512, .f32⟩
  | 72 => ⟨S512x512, .f32⟩
  | 73 => ⟨S1x512, .f32⟩
  | 74 => ⟨S512x512, .f32⟩
  | 75 => ⟨S512x512, .f32⟩
  | 76 => ⟨S1x512, .f32⟩
  | 77 => ⟨S512x512, .f32⟩
  | 78 => ⟨S512x512, .f32⟩
  | 79 => ⟨S512x128, .f32⟩
  | 80 => ⟨S512x128, .f32⟩
  | 81 => ⟨S512x128, .f32⟩
  | 82 => ⟨S512x128, .f32⟩
  | 83 => ⟨S512x128, .f32⟩
  | 84 => ⟨S512x128, .f32⟩
  | 85 => ⟨S_, .f32⟩
  | 86 => ⟨S512x128, .f32⟩
  | 87 => ⟨S512x128, .f32⟩
  | 88 => ⟨S_, .f32⟩
  | 89 => ⟨S512x128, .f32⟩
  | 90 => ⟨S512x128, .f32⟩
  | 91 => ⟨S512x128, .f32⟩
  | 92 => ⟨S512x128, .f32⟩
  | 93 => ⟨S_, .f32⟩
  | 94 => ⟨S512x128, .f32⟩
  | 95 => ⟨S512x128, .f32⟩
  | 96 => ⟨S_, .f32⟩
  | 97 => ⟨S512x128, .f32⟩
  | 98 => ⟨S512x128, .f32⟩
  | 99 => ⟨S512x128, .f32⟩
  | 100 => ⟨S512x128, .f32⟩
  | 101 => ⟨S512x128, .f32⟩
  | 102 => ⟨S_, .f32⟩
  | 103 => ⟨S512x128, .f32⟩
  | 104 => ⟨S512x128, .f32⟩
  | 105 => ⟨S_, .f32⟩
  | 106 => ⟨S512x128, .f32⟩
  | 107 => ⟨S512x128, .f32⟩
  | 108 => ⟨S512x128, .f32⟩
  | 109 => ⟨S512x128, .f32⟩
  | 110 => ⟨S512x128, .f32⟩
  | 111 => ⟨S512x128, .f32⟩
  | 112 => ⟨S512x128, .f32⟩
  | 113 => ⟨S_, .i32⟩
  | 114 => ⟨S100000, .i32⟩
  | 115 => ⟨S100000, .i1⟩
  | 116 => ⟨S_, .i32⟩
  | 117 => ⟨S100000, .i32⟩
  | 118 => ⟨S100000, .i32⟩
  | 119 => ⟨S100000, .i32⟩
  | 120 => ⟨S100000x1, .i32⟩
  | 121 => ⟨S100000x128, .f32⟩
  | 122 => ⟨S100000x128, .f32⟩
  | 123 => ⟨S_, .f32⟩
  | 124 => ⟨S100000, .f32⟩
  | 125 => ⟨S1x100000, .f32⟩
  | 126 => ⟨S_, .f32⟩
  | 127 => ⟨S_, .f32⟩
  | _ => ⟨S100000x128, .f32⟩

abbrev hbmTy0_3 (i : Nat) : BufTy := match i % 128 with
  | 0 => ⟨S512x100000, .f32⟩
  | 1 => ⟨S512x100000, .f32⟩
  | 2 => ⟨S512x100000, .f32⟩
  | 3 => ⟨S_, .f32⟩
  | 4 => ⟨S512, .f32⟩
  | 5 => ⟨S_, .f32⟩
  | 6 => ⟨S512, .f32⟩
  | 7 => ⟨S512, .i1⟩
  | 8 => ⟨S_, .f32⟩
  | 9 => ⟨S512, .f32⟩
  | 10 => ⟨S512, .i1⟩
  | 11 => ⟨S512, .i1⟩
  | 12 => ⟨S_, .f32⟩
  | 13 => ⟨S_, .f32⟩
  | 14 => ⟨S512, .f32⟩
  | 15 => ⟨S512, .f32⟩
  | 16 => ⟨S_, .i32⟩
  | 17 => ⟨S100000, .i32⟩
  | 18 => ⟨S100000, .i1⟩
  | 19 => ⟨S_, .i32⟩
  | 20 => ⟨S100000, .i32⟩
  | 21 => ⟨S100000, .i32⟩
  | 22 => ⟨S100000, .i32⟩
  | 23 => ⟨S100000x1, .i32⟩
  | 24 => ⟨S100000, .f32⟩
  | 25 => ⟨S100000, .f32⟩
  | 26 => ⟨S100000, .f32⟩
  | 27 => ⟨S_, .f32⟩
  | 28 => ⟨S512, .f32⟩
  | 29 => ⟨S100000x1, .i32⟩
  | 30 => ⟨S512, .f32⟩
  | 31 => ⟨S_, .i32⟩
  | 32 => ⟨S100000, .i32⟩
  | 33 => ⟨S100000, .i1⟩
  | 34 => ⟨S_, .i32⟩
  | 35 => ⟨S100000, .i32⟩
  | 36 => ⟨S100000, .i32⟩
  | 37 => ⟨S100000, .i32⟩
  | 38 => ⟨S100000x1, .i32⟩
  | 39 => ⟨S100000, .f32⟩
  | 40 => ⟨S100000, .f32⟩
  | 41 => ⟨S100000x1, .f32⟩
  | 42 => ⟨S100000x128, .f32⟩
  | 43 => ⟨S100000x128, .f32⟩
  | 44 => ⟨S_, .f32⟩
  | 45 => ⟨S512x128, .f32⟩
  | 46 => ⟨S100000x1, .i32⟩
  | 47 => ⟨S512x128, .f32⟩
  | 48 => ⟨S_, .f32⟩
  | 49 => ⟨S512, .f32⟩
  | 50 => ⟨S512, .f32⟩
  | 51 => ⟨S512x1, .f32⟩
  | 52 => ⟨S512x128, .f32⟩
  | 53 => ⟨S512x128, .f32⟩
  | 54 => ⟨S512x256, .f32⟩
  | 55 => ⟨S256x512, .f32⟩
  | 56 => ⟨S512x512, .f32⟩
  | 57 => ⟨S128x512, .f32⟩
  | 58 => ⟨S512x512, .f32⟩
  | 59 => ⟨S512x512, .f32⟩
  | 60 => ⟨S1x512, .f32⟩
  | 61 => ⟨S512x512, .f32⟩
  | 62 => ⟨S512x512, .f32⟩
  | 63 => ⟨S1x512, .f32⟩
  | 64 => ⟨S512x512, .f32⟩
  | 65 => ⟨S512x512, .f32⟩
  | 66 => ⟨S512x128, .f32⟩
  | 67 => ⟨S512x128, .f32⟩
  | 68 => ⟨S512x128, .f32⟩
  | 69 => ⟨S512x128, .f32⟩
  | 70 => ⟨S512x128, .f32⟩
  | 71 => ⟨S512x128, .f32⟩
  | 72 => ⟨S_, .f32⟩
  | 73 => ⟨S512x128, .f32⟩
  | 74 => ⟨S512x128, .f32⟩
  | 75 => ⟨S_, .f32⟩
  | 76 => ⟨S512x128, .f32⟩
  | 77 => ⟨S512x128, .f32⟩
  | 78 => ⟨S512x128, .f32⟩
  | 79 => ⟨S512x128, .f32⟩
  | 80 => ⟨S_, .f32⟩
  | 81 => ⟨S512x128, .f32⟩
  | 82 => ⟨S512x128, .f32⟩
  | 83 => ⟨S_, .f32⟩
  | 84 => ⟨S512x128, .f32⟩
  | 85 => ⟨S512x128, .f32⟩
  | 86 => ⟨S512x128, .f32⟩
  | 87 => ⟨S512x128, .f32⟩
  | 88 => ⟨S512x128, .f32⟩
  | 89 => ⟨S_, .f32⟩
  | 90 => ⟨S512x128, .f32⟩
  | 91 => ⟨S512x128, .f32⟩
  | 92 => ⟨S_, .f32⟩
  | 93 => ⟨S512x128, .f32⟩
  | 94 => ⟨S512x128, .f32⟩
  | 95 => ⟨S512x128, .f32⟩
  | 96 => ⟨S512x128, .f32⟩
  | 97 => ⟨S512x128, .f32⟩
  | 98 => ⟨S512x128, .f32⟩
  | 99 => ⟨S512x128, .f32⟩
  | 100 => ⟨S512x256, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_c : Ref sig .tc := ⟨.hbm, 24, rfl⟩
abbrev main_v12 : Ref sig .tc := ⟨.hbm, 25, rfl⟩
abbrev main_v13 : Ref sig .tc := ⟨.hbm, 26, rfl⟩
abbrev main_c_5 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_6 : Ref sig .tc := ⟨.hbm, 34, rfl⟩
abbrev main_v20 : Ref sig .tc := ⟨.hbm, 35, rfl⟩
abbrev main_v21 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v22 : Ref sig .tc := ⟨.hbm, 41, rfl⟩
abbrev main_cst_8 : Ref sig .tc := ⟨.hbm, 42, rfl⟩
abbrev main_v23 : Ref sig .tc := ⟨.hbm, 43, rfl⟩
abbrev main_cst_9 : Ref sig .tc := ⟨.hbm, 44, rfl⟩
abbrev main_v24 : Ref sig .tc := ⟨.hbm, 45, rfl⟩
abbrev main_v25 : Ref sig .tc := ⟨.hbm, 46, rfl⟩
abbrev main_cst_10 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_11 : Ref sig .tc := ⟨.hbm, 51, rfl⟩
abbrev main_call1_v0 : Ref sig .tc := ⟨.hbm, 52, rfl⟩
abbrev main_call1_v1 : Ref sig .tc := ⟨.hbm, 53, rfl⟩
abbrev main_v29 : Ref sig .tc := ⟨.hbm, 54, rfl⟩
abbrev main_c_12 : Ref sig .tc := ⟨.hbm, 55, rfl⟩
abbrev main_v30 : Ref sig .tc := ⟨.hbm, 56, rfl⟩
abbrev main_v31 : Ref sig .tc := ⟨.hbm, 57, rfl⟩
abbrev main_c_13 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_14 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_c_15 : Ref sig .tc := ⟨.hbm, 70, rfl⟩
abbrev main_v42 : Ref sig .tc := ⟨.hbm, 71, rfl⟩
abbrev main_v43 : Ref sig .tc := ⟨.hbm, 72, rfl⟩
abbrev main_c_16 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_17 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_cst_18 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_cst_19 : Ref sig .tc := ⟨.hbm, 111, rfl⟩
abbrev main_v79 : Ref sig .tc := ⟨.hbm, 112, rfl⟩
abbrev main_v80 : Ref sig .tc := ⟨.hbm, 113, rfl⟩
abbrev main_cst_20 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_cst_21 : Ref sig .tc := ⟨.hbm, 119, rfl⟩
abbrev main_v85 : Ref sig .tc := ⟨.hbm, 120, rfl⟩
abbrev main_v86 : Ref sig .tc := ⟨.hbm, 121, rfl⟩
abbrev main_cst_22 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_cst_23 : Ref sig .tc := ⟨.hbm, 128, rfl⟩
abbrev main_v92 : Ref sig .tc := ⟨.hbm, 129, rfl⟩
abbrev main_v93 : Ref sig .tc := ⟨.hbm, 130, rfl⟩
abbrev main_cst_24 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_25 : Ref sig .tc := ⟨.hbm, 139, rfl⟩
abbrev main_v101 : Ref sig .tc := ⟨.hbm, 140, rfl⟩
abbrev main_v102 : Ref sig .tc := ⟨.hbm, 141, rfl⟩
abbrev main_c_26 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_27 : Ref sig .tc := ⟨.hbm, 149, rfl⟩
abbrev main_v109 : Ref sig .tc := ⟨.hbm, 150, rfl⟩
abbrev main_v110 : Ref sig .tc := ⟨.hbm, 151, rfl⟩
abbrev main_cst_28 : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_v111 : Ref sig .tc := ⟨.hbm, 156, rfl⟩
abbrev main_cst_29 : Ref sig .tc := ⟨.hbm, 157, rfl⟩
abbrev main_v112 : Ref sig .tc := ⟨.hbm, 158, rfl⟩
abbrev main_cst_30 : Ref sig .tc := ⟨.hbm, 159, rfl⟩
abbrev main_v113 : Ref sig .tc := ⟨.hbm, 160, rfl⟩
abbrev main_v114 : Ref sig .tc := ⟨.hbm, 161, rfl⟩
abbrev main_cst_31 : Ref sig .tc := ⟨.hbm, 162, rfl⟩
abbrev main_v115 : Ref sig .tc := ⟨.hbm, 163, rfl⟩
abbrev main_v116 : Ref sig .tc := ⟨.hbm, 164, rfl⟩
abbrev main_v117 : Ref sig .tc := ⟨.hbm, 165, rfl⟩
abbrev main_cst_32 : Ref sig .tc := ⟨.hbm, 166, rfl⟩
abbrev main_call3_v0 : Ref sig .tc := ⟨.hbm, 167, rfl⟩
abbrev main_call3_v1 : Ref sig .tc := ⟨.hbm, 168, rfl⟩
abbrev main_v118 : Ref sig .tc := ⟨.hbm, 169, rfl⟩
abbrev main_c_33 : Ref sig .tc := ⟨.hbm, 170, rfl⟩
abbrev main_v119 : Ref sig .tc := ⟨.hbm, 171, rfl⟩
abbrev main_v120 : Ref sig .tc := ⟨.hbm, 172, rfl⟩
abbrev main_c_34 : Ref sig .tc := ⟨.hbm, 173, rfl⟩
abbrev main_v121 : Ref sig .tc := ⟨.hbm, 174, rfl⟩
abbrev main_v122 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_v127 : Ref sig .tc := ⟨.hbm, 180, rfl⟩
abbrev main_cst_35 : Ref sig .tc := ⟨.hbm, 181, rfl⟩
abbrev main_v128 : Ref sig .tc := ⟨.hbm, 182, rfl⟩
abbrev main_v129 : Ref sig .tc := ⟨.hbm, 183, rfl⟩
abbrev main_v130 : Ref sig .tc := ⟨.hbm, 184, rfl⟩
abbrev main_c_36 : Ref sig .tc := ⟨.hbm, 185, rfl⟩
abbrev main_v131 : Ref sig .tc := ⟨.hbm, 186, rfl⟩
abbrev main_v132 : Ref sig .tc := ⟨.hbm, 187, rfl⟩
abbrev main_c_37 : Ref sig .tc := ⟨.hbm, 188, rfl⟩
abbrev main_v133 : Ref sig .tc := ⟨.hbm, 189, rfl⟩
abbrev main_v134 : Ref sig .tc := ⟨.hbm, 190, rfl⟩
abbrev main_v135 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_v141 : Ref sig .tc := ⟨.hbm, 197, rfl⟩
abbrev main_cst_38 : Ref sig .tc := ⟨.hbm, 198, rfl⟩
abbrev main_v142 : Ref sig .tc := ⟨.hbm, 199, rfl⟩
abbrev main_v143 : Ref sig .tc := ⟨.hbm, 200, rfl⟩
abbrev main_v144 : Ref sig .tc := ⟨.hbm, 201, rfl⟩
abbrev main_cst_39 : Ref sig .tc := ⟨.hbm, 202, rfl⟩
abbrev main_v145 : Ref sig .tc := ⟨.hbm, 203, rfl⟩
abbrev main_v146 : Ref sig .tc := ⟨.hbm, 204, rfl⟩
abbrev main_v147 : Ref sig .tc := ⟨.hbm, 205, rfl⟩
abbrev main_v148 : Ref sig .tc := ⟨.hbm, 206, rfl⟩
abbrev main_v149 : Ref sig .tc := ⟨.hbm, 207, rfl⟩
abbrev main_v150 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_v161 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_v167 : Ref sig .tc := ⟨.hbm, 225, rfl⟩
abbrev main_cst_40 : Ref sig .tc := ⟨.hbm, 226, rfl⟩
abbrev main_v168 : Ref sig .tc := ⟨.hbm, 227, rfl⟩
abbrev main_v169 : Ref sig .tc := ⟨.hbm, 228, rfl⟩
abbrev main_cst_41 : Ref sig .tc := ⟨.hbm, 229, rfl⟩
abbrev main_v170 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_cst_42 : Ref sig .tc := ⟨.hbm, 234, rfl⟩
abbrev main_v174 : Ref sig .tc := ⟨.hbm, 235, rfl⟩
abbrev main_v175 : Ref sig .tc := ⟨.hbm, 236, rfl⟩
abbrev main_cst_43 : Ref sig .tc := ⟨.hbm, 237, rfl⟩
abbrev main_v176 : Ref sig .tc := ⟨.hbm, 238, rfl⟩
abbrev main_v177 : Ref sig .tc := ⟨.hbm, 239, rfl⟩
abbrev main_v178 : Ref sig .tc := ⟨.hbm, 240, rfl⟩
abbrev main_v179 : Ref sig .tc := ⟨.hbm, 241, rfl⟩
abbrev main_v180 : Ref sig .tc := ⟨.hbm, 242, rfl⟩
abbrev main_cst_44 : Ref sig .tc := ⟨.hbm, 243, rfl⟩
abbrev main_v181 : Ref sig .tc := ⟨.hbm, 244, rfl⟩
abbrev main_v182 : Ref sig .tc := ⟨.hbm, 245, rfl⟩
abbrev main_cst_45 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_c_46 : Ref sig .tc := ⟨.hbm, 254, rfl⟩
abbrev main_v190 : Ref sig .tc := ⟨.hbm, 255, rfl⟩
abbrev main_v191 : Ref sig .tc := ⟨.hbm, 256, rfl⟩
abbrev main_c_47 : Ref sig .tc := ⟨.hbm, 257, rfl⟩
abbrev main_v192 : Ref sig .tc := ⟨.hbm, 258, rfl⟩
abbrev main_v193 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_cst_48 : Ref sig .tc := ⟨.hbm, 264, rfl⟩
abbrev main_v198 : Ref sig .tc := ⟨.hbm, 265, rfl⟩
abbrev main_v199 : Ref sig .tc := ⟨.hbm, 266, rfl⟩
abbrev main_cst_49 : Ref sig .tc := ⟨.hbm, 267, rfl⟩
abbrev main_call4_v0 : Ref sig .tc := ⟨.hbm, 268, rfl⟩
abbrev main_call4_v1 : Ref sig .tc := ⟨.hbm, 269, rfl⟩
abbrev main_call4_v2 : Ref sig .tc := ⟨.hbm, 270, rfl⟩
abbrev main_v200 : Ref sig .tc := ⟨.hbm, 271, rfl⟩
abbrev main_cst_50 : Ref sig .tc := ⟨.hbm, 272, rfl⟩
abbrev main_v201 : Ref sig .tc := ⟨.hbm, 273, rfl⟩
abbrev main_cst_51 : Ref sig .tc := ⟨.hbm, 274, rfl⟩
abbrev main_v202 : Ref sig .tc := ⟨.hbm, 275, rfl⟩
abbrev main_v203 : Ref sig .tc := ⟨.hbm, 276, rfl⟩
abbrev main_cst_52 : Ref sig .tc := ⟨.hbm, 277, rfl⟩
abbrev main_v204 : Ref sig .tc := ⟨.hbm, 278, rfl⟩
abbrev main_v205 : Ref sig .tc := ⟨.hbm, 279, rfl⟩
abbrev main_v206 : Ref sig .tc := ⟨.hbm, 280, rfl⟩
abbrev main_cst_53 : Ref sig .tc := ⟨.hbm, 281, rfl⟩
abbrev main_call5_v0 : Ref sig .tc := ⟨.hbm, 282, rfl⟩
abbrev main_call5_v1 : Ref sig .tc := ⟨.hbm, 283, rfl⟩
abbrev main_v207 : Ref sig .tc := ⟨.hbm, 284, rfl⟩
abbrev main_c_54 : Ref sig .tc := ⟨.hbm, 285, rfl⟩
abbrev main_v208 : Ref sig .tc := ⟨.hbm, 286, rfl⟩
abbrev main_v209 : Ref sig .tc := ⟨.hbm, 287, rfl⟩
abbrev main_c_55 : Ref sig .tc := ⟨.hbm, 288, rfl⟩
abbrev main_v210 : Ref sig .tc := ⟨.hbm, 289, rfl⟩
abbrev main_v211 : Ref sig .tc := ⟨.hbm, 290, rfl⟩
abbrev main_v212 : Ref sig .tc := ⟨.hbm, 291, rfl⟩
abbrev main_v213 : Ref sig .tc := ⟨.hbm, 292, rfl⟩
abbrev main_v214 : Ref sig .tc := ⟨.hbm, 293, rfl⟩
abbrev main_v215 : Ref sig .tc := ⟨.hbm, 294, rfl⟩
abbrev main_v216 : Ref sig .tc := ⟨.hbm, 295, rfl⟩
abbrev main_cst_56 : Ref sig .tc := ⟨.hbm, 296, rfl⟩
abbrev main_v217 : Ref sig .tc := ⟨.hbm, 297, rfl⟩
abbrev main_v218 : Ref sig .tc := ⟨.hbm, 298, rfl⟩
abbrev main_v219 : Ref sig .tc := ⟨.hbm, 299, rfl⟩
abbrev main_c_57 : Ref sig .tc := ⟨.hbm, 300, rfl⟩
abbrev main_v220 : Ref sig .tc := ⟨.hbm, 301, rfl⟩
abbrev main_v221 : Ref sig .tc := ⟨.hbm, 302, rfl⟩
abbrev main_c_58 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_cst_59 : Ref sig .tc := ⟨.hbm, 313, rfl⟩
abbrev main_v231 : Ref sig .tc := ⟨.hbm, 314, rfl⟩
abbrev main_v232 : Ref sig .tc := ⟨.hbm, 315, rfl⟩
abbrev main_v233 : Ref sig .tc := ⟨.hbm, 316, rfl⟩
abbrev main_cst_60 : Ref sig .tc := ⟨.hbm, 317, rfl⟩
abbrev main_v234 : Ref sig .tc := ⟨.hbm, 318, rfl⟩
abbrev main_v235 : Ref sig .tc := ⟨.hbm, 319, rfl⟩
abbrev main_v236 : Ref sig .tc := ⟨.hbm, 320, rfl⟩
abbrev main_v237 : Ref sig .tc := ⟨.hbm, 321, rfl⟩
abbrev main_v238 : Ref sig .tc := ⟨.hbm, 322, rfl⟩
abbrev main_v239 : Ref sig .tc := ⟨.hbm, 323, rfl⟩
abbrev main_v240 : Ref sig .tc := ⟨.hbm, 324, rfl⟩
abbrev main_v241 : Ref sig .tc := ⟨.hbm, 325, rfl⟩
abbrev main_v242 : Ref sig .tc := ⟨.hbm, 326, rfl⟩
abbrev main_v243 : Ref sig .tc := ⟨.hbm, 327, rfl⟩
abbrev main_v244 : Ref sig .tc := ⟨.hbm, 328, rfl⟩
abbrev main_v245 : Ref sig .tc := ⟨.hbm, 329, rfl⟩
abbrev main_v246 : Ref sig .tc := ⟨.hbm, 330, rfl⟩
abbrev main_v247 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_v253 : Ref sig .tc := ⟨.hbm, 337, rfl⟩
abbrev main_v254 : Ref sig .tc := ⟨.hbm, 338, rfl⟩
abbrev main_v255 : Ref sig .tc := ⟨.hbm, 339, rfl⟩
abbrev main_v256 : Ref sig .tc := ⟨.hbm, 340, rfl⟩
abbrev main_cst_61 : Ref sig .tc := ⟨.hbm, 341, rfl⟩
abbrev main_v257 : Ref sig .tc := ⟨.hbm, 342, rfl⟩
abbrev main_v258 : Ref sig .tc := ⟨.hbm, 343, rfl⟩
abbrev main_cst_62 : Ref sig .tc := ⟨.hbm, 344, rfl⟩
abbrev main_v259 : Ref sig .tc := ⟨.hbm, 345, rfl⟩
abbrev main_v260 : Ref sig .tc := ⟨.hbm, 346, rfl⟩
abbrev main_v261 : Ref sig .tc := ⟨.hbm, 347, rfl⟩
abbrev main_v262 : Ref sig .tc := ⟨.hbm, 348, rfl⟩
abbrev main_cst_63 : Ref sig .tc := ⟨.hbm, 349, rfl⟩
abbrev main_v263 : Ref sig .tc := ⟨.hbm, 350, rfl⟩
abbrev main_v264 : Ref sig .tc := ⟨.hbm, 351, rfl⟩
abbrev main_cst_64 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_cst_65 : Ref sig .tc := ⟨.hbm, 358, rfl⟩
abbrev main_v270 : Ref sig .tc := ⟨.hbm, 359, rfl⟩
abbrev main_v271 : Ref sig .tc := ⟨.hbm, 360, rfl⟩
abbrev main_cst_66 : Ref sig .tc := ⟨.hbm, 361, rfl⟩
abbrev main_v272 : Ref sig .tc := ⟨.hbm, 362, rfl⟩
abbrev main_v273 : Ref sig .tc := ⟨.hbm, 363, rfl⟩
abbrev main_v274 : Ref sig .tc := ⟨.hbm, 364, rfl⟩
abbrev main_v275 : Ref sig .tc := ⟨.hbm, 365, rfl⟩
abbrev main_v276 : Ref sig .tc := ⟨.hbm, 366, rfl⟩
abbrev main_v277 : Ref sig .tc := ⟨.hbm, 367, rfl⟩
abbrev main_v278 : Ref sig .tc := ⟨.hbm, 368, rfl⟩
abbrev main_c_67 : Ref sig .tc := ⟨.hbm, 369, rfl⟩
abbrev main_v279 : Ref sig .tc := ⟨.hbm, 370, rfl⟩
abbrev main_v280 : Ref sig .tc := ⟨.hbm, 371, rfl⟩
abbrev main_c_68 : Ref sig .tc := ⟨.hbm, 372, rfl⟩
abbrev main_v281 : Ref sig .tc := ⟨.hbm, 373, rfl⟩
abbrev main_v282 : Ref sig .tc := ⟨.hbm, 374, rfl⟩
abbrev main_v283 : Ref sig .tc := ⟨.hbm, 375, rfl⟩
abbrev main_v284 : Ref sig .tc := ⟨.hbm, 376, rfl⟩
abbrev main_v285 : Ref sig .tc := ⟨.hbm, 377, rfl⟩
abbrev main_v286 : Ref sig .tc := ⟨.hbm, 378, rfl⟩
abbrev main_cst_69 : Ref sig .tc := ⟨.hbm, 379, rfl⟩
abbrev main_v287 : Ref sig .tc := ⟨.hbm, 380, rfl⟩
abbrev main_v288 : Ref sig .tc := ⟨.hbm, 381, rfl⟩
abbrev main_cst_70 : Ref sig .tc := ⟨.hbm, 382, rfl⟩
abbrev main_call6_v0 : Ref sig .tc := ⟨.hbm, 383, rfl⟩
abbrev main_call6_v1 : Ref sig .tc := ⟨.hbm, 384, rfl⟩
abbrev main_call6_v2 : Ref sig .tc := ⟨.hbm, 385, rfl⟩
abbrev main_v289 : Ref sig .tc := ⟨.hbm, 386, rfl⟩
abbrev main_cst_71 : Ref sig .tc := ⟨.hbm, 387, rfl⟩
abbrev main_v290 : Ref sig .tc := ⟨.hbm, 388, rfl⟩
abbrev main_cst_72 : Ref sig .tc := ⟨.hbm, 389, rfl⟩
abbrev main_v291 : Ref sig .tc := ⟨.hbm, 390, rfl⟩
abbrev main_v292 : Ref sig .tc := ⟨.hbm, 391, rfl⟩
abbrev main_cst_73 : Ref sig .tc := ⟨.hbm, 392, rfl⟩
abbrev main_v293 : Ref sig .tc := ⟨.hbm, 393, rfl⟩
abbrev main_v294 : Ref sig .tc := ⟨.hbm, 394, rfl⟩
abbrev main_v295 : Ref sig .tc := ⟨.hbm, 395, rfl⟩
abbrev main_cst_74 : Ref sig .tc := ⟨.hbm, 396, rfl⟩
abbrev main_call7_v0 : Ref sig .tc := ⟨.hbm, 397, rfl⟩
abbrev main_call7_v1 : Ref sig .tc := ⟨.hbm, 398, rfl⟩
abbrev main_v296 : Ref sig .tc := ⟨.hbm, 399, rfl⟩
abbrev main_c_75 : Ref sig .tc := ⟨.hbm, 400, rfl⟩
abbrev main_v297 : Ref sig .tc := ⟨.hbm, 401, rfl⟩
abbrev main_v298 : Ref sig .tc := ⟨.hbm, 402, rfl⟩
abbrev main_c_76 : Ref sig .tc := ⟨.hbm, 403, rfl⟩
abbrev main_v299 : Ref sig .tc := ⟨.hbm, 404, rfl⟩
abbrev main_v300 : Ref sig .tc := ⟨.hbm, 405, rfl⟩
abbrev main_v301 : Ref sig .tc := ⟨.hbm, 406, rfl⟩
abbrev main_v302 : Ref sig .tc := ⟨.hbm, 407, rfl⟩
abbrev main_v303 : Ref sig .tc := ⟨.hbm, 408, rfl⟩
abbrev main_v304 : Ref sig .tc := ⟨.hbm, 409, rfl⟩
abbrev main_v305 : Ref sig .tc := ⟨.hbm, 410, rfl⟩
abbrev main_cst_77 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_c_78 : Ref sig .tc := ⟨.hbm, 415, rfl⟩
abbrev main_v309 : Ref sig .tc := ⟨.hbm, 416, rfl⟩
abbrev main_v310 : Ref sig .tc := ⟨.hbm, 417, rfl⟩
abbrev main_c_79 : Ref sig .tc := ⟨.hbm, 418, rfl⟩
abbrev main_v311 : Ref sig .tc := ⟨.hbm, 419, rfl⟩
abbrev main_v312 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_v317 : Ref sig .tc := ⟨.hbm, 425, rfl⟩
abbrev main_v318 : Ref sig .tc := ⟨.hbm, 426, rfl⟩
abbrev main_v319 : Ref sig .tc := ⟨.hbm, 427, rfl⟩
abbrev main_cst_80 : Ref sig .tc := ⟨.hbm, 428, rfl⟩
abbrev main_v320 : Ref sig .tc := ⟨.hbm, 429, rfl⟩
abbrev main_v321 : Ref sig .tc := ⟨.hbm, 430, rfl⟩
abbrev main_v322 : Ref sig .tc := ⟨.hbm, 431, rfl⟩
abbrev main_cst_81 : Ref sig .tc := ⟨.hbm, 432, rfl⟩
abbrev main_v323 : Ref sig .tc := ⟨.hbm, 433, rfl⟩
abbrev main_v324 : Ref sig .tc := ⟨.hbm, 434, rfl⟩
abbrev main_v325 : Ref sig .tc := ⟨.hbm, 435, rfl⟩
abbrev main_v326 : Ref sig .tc := ⟨.hbm, 436, rfl⟩
abbrev main_v327 : Ref sig .tc := ⟨.hbm, 437, rfl⟩
abbrev main_v328 : Ref sig .tc := ⟨.hbm, 438, rfl⟩
abbrev main_v329 : Ref sig .tc := ⟨.hbm, 439, rfl⟩
abbrev main_v330 : Ref sig .tc := ⟨.hbm, 440, rfl⟩
abbrev main_v331 : Ref sig .tc := ⟨.hbm, 441, rfl⟩
abbrev main_v332 : Ref sig .tc := ⟨.hbm, 442, rfl⟩
abbrev main_v333 : Ref sig .tc := ⟨.hbm, 443, rfl⟩
abbrev main_v334 : Ref sig .tc := ⟨.hbm, 444, rfl⟩
abbrev main_v335 : Ref sig .tc := ⟨.hbm, 445, rfl⟩
abbrev main_v336 : Ref sig .tc := ⟨.hbm, 446, rfl⟩
abbrev main_v337 : Ref sig .tc := ⟨.hbm, 447, rfl⟩
abbrev main_v338 : Ref sig .tc := ⟨.hbm, 448, rfl⟩
abbrev main_v339 : Ref sig .tc := ⟨.hbm, 449, rfl⟩
abbrev main_v340 : Ref sig .tc := ⟨.hbm, 450, rfl⟩
abbrev main_v341 : Ref sig .tc := ⟨.hbm, 451, rfl⟩
abbrev main_v342 : Ref sig .tc := ⟨.hbm, 452, rfl⟩
abbrev main_v343 : Ref sig .tc := ⟨.hbm, 453, rfl⟩
abbrev main_v344 : Ref sig .tc := ⟨.hbm, 454, rfl⟩
abbrev main_v345 : Ref sig .tc := ⟨.hbm, 455, rfl⟩
abbrev main_cst_82 : Ref sig .tc := ⟨.hbm, 456, rfl⟩
abbrev main_v346 : Ref sig .tc := ⟨.hbm, 457, rfl⟩
abbrev main_v347 : Ref sig .tc := ⟨.hbm, 458, rfl⟩
abbrev main_cst_83 : Ref sig .tc := ⟨.hbm, 459, rfl⟩
abbrev main_v348 : Ref sig .tc := ⟨.hbm, 460, rfl⟩
abbrev main_v349 : Ref sig .tc := ⟨.hbm, 461, rfl⟩
abbrev main_v350 : Ref sig .tc := ⟨.hbm, 462, rfl⟩
abbrev main_v351 : Ref sig .tc := ⟨.hbm, 463, rfl⟩
abbrev main_cst_84 : Ref sig .tc := ⟨.hbm, 464, rfl⟩
abbrev main_v352 : Ref sig .tc := ⟨.hbm, 465, rfl⟩
abbrev main_v353 : Ref sig .tc := ⟨.hbm, 466, rfl⟩
abbrev main_cst_85 : Ref sig .tc := ⟨.hbm, 467, rfl⟩
abbrev main_v354 : Ref sig .tc := ⟨.hbm, 468, rfl⟩
abbrev main_v355 : Ref sig .tc := ⟨.hbm, 469, rfl⟩
abbrev main_v356 : Ref sig .tc := ⟨.hbm, 470, rfl⟩
abbrev main_v357 : Ref sig .tc := ⟨.hbm, 471, rfl⟩
abbrev main_v358 : Ref sig .tc := ⟨.hbm, 472, rfl⟩
abbrev main_cst_86 : Ref sig .tc := ⟨.hbm, 473, rfl⟩
abbrev main_v359 : Ref sig .tc := ⟨.hbm, 474, rfl⟩
abbrev main_v360 : Ref sig .tc := ⟨.hbm, 475, rfl⟩
abbrev main_cst_87 : Ref sig .tc := ⟨.hbm, 476, rfl⟩
abbrev main_v361 : Ref sig .tc := ⟨.hbm, 477, rfl⟩
abbrev main_v362 : Ref sig .tc := ⟨.hbm, 478, rfl⟩
abbrev main_v363 : Ref sig .tc := ⟨.hbm, 479, rfl⟩
abbrev main_v364 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩

abbrev nD : Nat := 1
abbrev τ : Topo := Topo.v7x

variable {F : FTy → Type} [FloatOps F]
-- ==== Proof.Trip.lean ====
module

public import proofs.«01_k».proof.Proof.Gen.KernelIdeal.Loops
public import proofs.«01_k».proof.Proof.Gen.KernelIdeal.Frame
public import proofs.«01_k».proof.Proof.Gen.KernelIdeal.Skeleton
public import Idealize.ShloMosaic.Lib.VecWindow
public import Idealize.ShloMosaic.Lib.Tactic

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

abbrev 𝒱₀ : Variants := Variants.none

/-- A whole memref held at full share with the contents `X`. -/
abbrev held (c : Dev nD) {sp : Space} {s : Shape} {e : EltTy} (m : Memref sig .tc sp s e) (X : Vec F s e) : sProp 𝕄 :=
  m.view.loc (c : Thread nD τ) ↦[m.view.set]{fullShare} m.view.rep X

/-- What a step's loop carries in scratch: the running maximum, the running sum and the running weighted sum of every graph. -/
structure St (F : FTy → Type) [FloatOps F] where
  M : Vec F S512x1 .f32
  S : Vec F S512x1 .f32
  R : Vec F S512x128 .f32

/-- The tile of rows a trip reads. -/
def xt (x3 : Vec F S50x2000x128 .f32) (t : Fin k0_t2_loop.trips) : Vec F S1x2000x128 .f32 := VecWindow.window x3 (k0_off5 t) S1x2000x128.size (k0_off5_inb t)
/-- The tile of graph numbers a trip reads. -/
def bt (b3 : Vec F S50x1x2000 .i32) (t : Fin k0_t2_loop.trips) : Vec F S1x1x2000 .i32 := VecWindow.window b3 (k0_off6 t) S1x1x2000.size (k0_off6_inb t)
/-- The least graph number of a tile. -/
def lo (b : Vec F S1x1x2000 .i32) : BitVec 32 := extractAt ![0, 0, 0] (k0_pay41 (F := F) b) inpos_S1x1x1_p0_0_0
/-- The greatest graph number of a tile. -/
def hi (b : Vec F S1x1x2000 .i32) : BitVec 32 := extractAt ![0, 0, 0] (k0_pay42 (F := F) b) inpos_S1x1x1_p0_0_0

/-- The first row of the 32-row window, as the kernel computes it from the least graph number. -/
def base (v248 : BitVec 32) : BitVec 32 :=
  let c0_i32_138 : BitVec 32 := 0#32
  let v250 : BitVec 1 := Scalar.cmpi .sgt v248 c0_i32_138
  let v251 : BitVec 32 := Scalar.extui v250
  let c0_i32_139 : BitVec 32 := 0#32
  let v252 : BitVec 1 := Scalar.cmpi .slt v248 c0_i32_139
  let v253 : BitVec 32 := Scalar.extui v252
  let v254 : BitVec 32 := Scalar.subi v251 v253
  let c8_i32 : BitVec 32 := 8#32
  let c0_i32_140 : BitVec 32 := 0#32
  let v255 : BitVec 1 := Scalar.cmpi .sgt c8_i32 c0_i32_140
  let v256 : BitVec 32 := Scalar.extui v255
  let c0_i32_141 : BitVec 32 := 0#32
  let v257 : BitVec 1 := Scalar.cmpi .slt c8_i32 c0_i32_141
  let v258 : BitVec 32 := Scalar.extui v257
  let v259 : BitVec 32 := Scalar.subi v256 v258
  let v260 : BitVec 1 := Scalar.cmpi .ne v254 v259
  let v261 : BitVec 32 := Scalar.remsi v248 c8_i32
  let c0_i32_142 : BitVec 32 := 0#32
  let v262 : BitVec 1 := Scalar.cmpi .ne v261 c0_i32_142
  let v263 : BitVec 1 := Scalar.andi v260 v262
  let v249 : BitVec 32 := Scalar.divsi v248 c8_i32
  let c1_i32_143 : BitVec 32 := 1#32
  let v264 : BitVec 32 := Scalar.subi v249 c1_i32_143
  let v265 : BitVec 32 := Scalar.select v263 v264 v249
  let c8_i32_144 : BitVec 32 := 8#32
  let v266 : BitVec 32 := Scalar.muli v265 c8_i32_144
  let c480_i32 : BitVec 32 := 480#32
  Scalar.minsi v266 c480_i32

/-- The word that chooses the full-height branch. -/
def wideW (v248 v271 : BitVec 32) : BitVec 1 :=
  Scalar.cmpi .ne (Scalar.extui (Scalar.cmpi .sge (Scalar.subi v271 (base v248)) 32#32) : BitVec 32) 0#32

/-- The two branches exclude each other and one of them is taken. -/
theorem narrow_iff (v248 v271 : BitVec 32) : k0_cond3 v248 v271 = 1#1 ↔ ¬ wideW v248 v271 = 1#1 := by
  have e : k0_cond3 v248 v271 = Scalar.cmpi .ne (Scalar.extui (Scalar.xori (Scalar.cmpi .sge (Scalar.subi v271 (base v248)) 32#32) 1#1) : BitVec 32) 0#32 := rfl
  rw [e]; unfold wideW
  generalize Scalar.cmpi .sge (Scalar.subi v271 (base v248)) 32#32 = w
  revert w; decide

/-- One trip through the 32-row window. -/
def narrowSt (v10 : IVec S32x2000 32) (x : Vec F S1x2000x128 .f32) (b : Vec F S1x1x2000 .i32) (Q : Vec F S512x128 .f32)
    (i1 : ∀ a, k0_off7 (lo b) a + S32x128.size a ≤ S512x128.size a) (i2 : ∀ a, k0_off8 (lo b) a + S32x1.size a ≤ S512x1.size a) (s : St F) : St F :=
  let q := VecWindow.window Q (k0_off7 (lo b)) S32x128.size i1
  let m := VecWindow.window s.M (k0_off8 (lo b)) S32x1.size i2
  { M := VecWindow.put s.M (k0_off8 (lo b)) S32x1.size (k0_pay30 v10 (k0_pay39 x) (k0_pay40 (F := F) b) (base (lo b)) q m)
    S := VecWindow.put s.S (k0_off8 (lo b)) S32x1.size (k0_pay43 (k0_pay31 v10 (k0_pay39 x) (k0_pay40 (F := F) b) (base (lo b)) q m (VecWindow.window s.S (k0_off8 (lo b)) S32x1.size i2)))
    R := VecWindow.put s.R (k0_off7 (lo b)) S32x128.size (k0_pay44 x (k0_pay28 v10 (k0_pay39 x) (k0_pay40 (F := F) b) (base (lo b)) q m)
      (k0_pay29 v10 (k0_pay39 x) (k0_pay40 (F := F) b) (base (lo b)) q m) (VecWindow.window s.R (k0_off7 (lo b)) S32x128.size i1)) }

/-- One trip through all 512 rows. -/
def wideSt (v11 : IVec S512x2000 32) (x : Vec F S1x2000x128 .f32) (b : Vec F S1x1x2000 .i32) (Q : Vec F S512x128 .f32) (s : St F) : St F :=
  { M := k0_pay37 v11 (k0_pay39 x) (k0_pay40 (F := F) b) Q s.M
    S := k0_pay38 v11 (k0_pay39 x) (k0_pay40 (F := F) b) Q s.M s.S
    R := k0_pay102 (k0_pay39 x) (k0_pay35 v11 (k0_pay39 x) (k0_pay40 (F := F) b) Q s.M) (k0_pay36 v11 (k0_pay39 x) (k0_pay40 (F := F) b) Q s.M) s.R }

/-- One trip: the window when the tile's graphs fit it, all rows otherwise. -/
def stepSt (v10 : IVec S32x2000 32) (v11 : IVec S512x2000 32) (x : Vec F S1x2000x128 .f32) (b : Vec F S1x1x2000 .i32) (Q : Vec F S512x128 .f32)
    (hw : k0_chk2 (lo b) (hi b)) (s : St F) : St F :=
  if h : wideW (lo b) (hi b) = 1#1 then wideSt v11 x b Q s
  else narrowSt v10 x b Q (hw.1 ((narrow_iff _ _).2 h)) (hw.2 ((narrow_iff _ _).2 h)) s

/-- The scratch a step's loop updates, held at a state. -/
abbrev heldSt (c : Dev nD) (arg7 arg8 : Memref sig .tc .vmem S512x1 .f32) (arg10 : Memref sig .tc .vmem S512x128 .f32) (s : St F) : sProp 𝕄 :=
  iprop(held c arg7 s.M ∗ held c arg8 s.S ∗ held c arg10 s.R)

/-- The writes into a whole buffer, read back: the contents the reading names. -/
theorem held_of_read (c : Dev nD) {sp : Space} {s : Shape} {e : EltTy} (m : Memref sig .tc sp s e) (g : m.view.ty.Contents (Elt F)) (X : Vec F s e)
    (h : m.view.read (Elt F) g = X) : (m.view.loc (c : Thread nD τ) ↦[m.view.set]{fullShare} g : sProp 𝕄) ⊢ held c m X := by
  exact pointsTo_rep_of_read (c : Thread nD τ) m g fullShare X h

/-- The count's window after one trip through the 32-row window. -/
def narrowC (v10 : IVec S32x2000 32) (b : Vec F S1x1x2000 .i32) (i2 : ∀ a, k0_off8 (lo b) a + S32x1.size a ≤ S512x1.size a) (C : Vec F S512x1 .f32) : Vec F S512x1 .f32 :=
  VecWindow.put C (k0_off8 (lo b)) S32x1.size (k0_pay24 (k0_pay4 v10 (k0_pay40 (F := F) b) (base (lo b))) (VecWindow.window C (k0_off8 (lo b)) S32x1.size i2))

/-- The count after one trip. -/
def stepC (v10 : IVec S32x2000 32) (v11 : IVec S512x2000 32) (b : Vec F S1x1x2000 .i32) (hw : k0_chk2 (lo b) (hi b)) (C : Vec F S512x1 .f32) : Vec F S512x1 .f32 :=
  if h : wideW (lo b) (hi b) = 1#1 then k0_pay94 (k0_pay11 v11 (k0_pay40 (F := F) b)) C
  else narrowC v10 b (hw.2 ((narrow_iff _ _).2 h)) C

/-- One trip of a later step's loop: the scratch goes to the state of `stepSt`, the inputs and the query stay. -/
theorem trip2 (c : Dev nD) (arg0 : Memref sig .tc .vmem S50x2000x128 .f32) (harg0 : arg0.IsWhole) (arg1 : Memref sig .tc .vmem S50x1x2000 .i32) (harg1 : arg1.IsWhole) (arg2 : Memref sig .tc .vmem S512x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (v10 : IVec S32x2000 32) (v11 : IVec S512x2000 32) (v67 : FVec F S512x128 .f32)
    (x3 : Vec F S50x2000x128 .f32) (b3 : Vec F S50x1x2000 .i32) (Q : Vec F S512x128 .f32) (s : St F)
    (t : Fin k0_t2_loop.trips) (hw : k0_chk2 (lo (bt b3 t)) (hi (bt b3 t))) :
    iprop(held c arg0 x3 ∗ held c arg1 b3 ∗ held c arg6 Q ∗ heldSt c arg7 arg8 arg10 s)
      ⊢ wp frame (wpE (defs₀ (F := F)) 𝒱₀ c none) Set.univ
        (k0_t2_body arg0 harg0 arg1 harg1 arg2 harg2 arg3 harg3 arg4 harg4 arg5 harg5 arg6 harg6 arg7 harg7 arg8 harg8 arg9 harg9 arg10 harg10 v10 v11 v67 t ())
        (fun _ => iprop(held c arg0 x3 ∗ held c arg1 b3 ∗ held c arg6 Q ∗ heldSt c arg7 arg8 arg10 (stepSt v10 v11 (xt x3 t) (bt b3 t) Q hw s))) := by
  have rx : View.readAt (Elt F) arg0.view (Rect.unit (s := S50x2000x128) (k0_off5 t) S1x2000x128.size (k0_off5_inb t)).toLoadRect (arg0.view.rep x3) = xt x3 t :=
    View.readAt_rep_unit _ _ _ rfl _
  have rb : View.readAt (Elt F) arg1.view (Rect.unit (s := S50x1x2000) (k0_off6 t) S1x1x2000.size (k0_off6_inb t)).toLoadRect (arg1.view.rep b3) = bt b3 t :=
    View.readAt_rep_unit _ _ _ rfl _
  have hw' := hw
  unfold lo hi at hw'
  unfold k0_t2_body
  by_cases hW : wideW (lo (bt b3 t)) (hi (bt b3 t)) = 1#1
  · have hN : ¬ k0_cond3 (lo (bt b3 t)) (hi (bt b3 t)) = 1#1 := fun h => (narrow_iff _ _).1 h hW
    have hW' := hW
    unfold lo hi at hW' hN
    unfold wideW base at hW'
    rw [show stepSt v10 v11 (xt x3 t) (bt b3 t) Q hw s = wideSt v11 (xt x3 t) (bt b3 t) Q s from dif_pos hW]
    iintro ⟨H0, H1, H6, H7, H8, H10⟩
    have r6 := View.readAt_rep_full (Val := Elt F) arg6.view Q (off := ![0, 0]) inb_S512x128_S512x128_0_0
    have r7 := View.readAt_rep_full (Val := Elt F) arg7.view s.M (off := ![0, 0]) inb_S512x1_S512x1_0_0
    have r8 := View.readAt_rep_full (Val := Elt F) arg8.view s.S (off := ![0, 0]) inb_S512x1_S512x1_0_0
    have r10 := View.readAt_rep_full (Val := Elt F) arg10.view s.R (off := ![0, 0]) inb_S512x128_S512x128_0_0
    sl_exec
    sl_step
    isplitl [H0]; · iexact H0
    isplitl [H1]; · iexact H1
    isplitl [H6]; · iexact H6
    isplitl [H7]
    · iapply (held_of_read c arg7 _ (wideSt v11 (xt x3 t) (bt b3 t) Q s).M ((View.read_writes_full _ _ _ _ []).trans (by rfl))) $$ H7
    isplitl [H8]
    · iapply (held_of_read c arg8 _ (wideSt v11 (xt x3 t) (bt b3 t) Q s).S ((View.read_writes_full _ _ _ _ []).trans (by rfl))) $$ H8
    · iapply (held_of_read c arg10 _ (wideSt v11 (xt x3 t) (bt b3 t) Q s).R ((View.read_writes_full _ _ _ _ []).trans (by rfl))) $$ H10
  · have hN : k0_cond3 (lo (bt b3 t)) (hi (bt b3 t)) = 1#1 := (narrow_iff _ _).2 hW
    have hW' := hW
    rw [show stepSt v10 v11 (xt x3 t) (bt b3 t) Q hw s = narrowSt v10 (xt x3 t) (bt b3 t) Q (hw.1 hN) (hw.2 hN) s from dif_neg hW]
    unfold lo hi at hW' hN
    unfold wideW base at hW'
    iintro ⟨H0, H1, H6, H7, H8, H10⟩
    have r6 := View.readAt_rep_unit (Val := Elt F) arg6.view Q (hw.1 hN) rfl (hw.1 hN)
    have r7 := View.readAt_rep_unit (Val := Elt F) arg7.view s.M (hw.2 hN) rfl (hw.2 hN)
    have r8 := View.readAt_rep_unit (Val := Elt F) arg8.view s.S (hw.2 hN) rfl (hw.2 hN)
    have r10 := View.readAt_rep_unit (Val := Elt F) arg10.view s.R (hw.1 hN) rfl (hw.1 hN)
    sl_exec
    sl_step
    isplitl [H0]; · iexact H0
    isplitl [H1]; · iexact H1
    isplitl [H6]; · iexact H6
    isplitl [H7]
    · iapply (held_of_read c arg7 _ (narrowSt v10 (xt x3 t) (bt b3 t) Q (hw.1 hN) (hw.2 hN) s).M
        ((View.read_writes_rep_unit _ _ _ _ rfl).trans (by rfl))) $$ H7
    isplitl [H8]
    · iapply (held_of_read c arg8 _ (narrowSt v10 (xt x3 t) (bt b3 t) Q (hw.1 hN) (hw.2 hN) s).S
        ((View.read_writes_rep_unit _ _ _ _ rfl).trans (by rfl))) $$ H8
    · iapply (held_of_read c arg10 _ (narrowSt v10 (xt x3 t) (bt b3 t) Q (hw.1 hN) (hw.2 hN) s).R
        ((View.read_writes_rep_unit _ _ _ _ rfl).trans (by rfl))) $$ H10

/-- The loop of step 3 runs the same trips. -/
theorem trip3 (c : Dev nD) (arg0 : Memref sig .tc .vmem S50x2000x128 .f32) (harg0 : arg0.IsWhole) (arg1 : Memref sig .tc .vmem S50x1x2000 .i32) (harg1 : arg1.IsWhole) (arg2 : Memref sig .tc .vmem S512x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (v10 : IVec S32x2000 32) (v11 : IVec S512x2000 32) (v0 : Vec F S512x256 .f32) (v1 : Vec F S512x128 .f32) (v3 : FVec F S1x512 .f32) (v120 v122 : FVec F S512x128 .f32)
    (x3 : Vec F S50x2000x128 .f32) (b3 : Vec F S50x1x2000 .i32) (Q : Vec F S512x128 .f32) (s : St F)
    (t : Fin k0_t2_loop.trips) (hw : k0_chk2 (lo (bt b3 t)) (hi (bt b3 t))) :
    iprop(held c arg0 x3 ∗ held c arg1 b3 ∗ held c arg6 Q ∗ heldSt c arg7 arg8 arg10 s)
      ⊢ wp frame (wpE (defs₀ (F := F)) 𝒱₀ c none) Set.univ
        (k0_t3_body arg0 harg0 arg1 harg1 arg2 harg2 arg3 harg3 arg4 harg4 arg5 harg5 arg6 harg6 arg7 harg7 arg8 harg8 arg9 harg9 arg10 harg10 v0 v1 v3 v10 v11 v120 v122 0#32 1#32 t ())
        (fun _ => iprop(held c arg0 x3 ∗ held c arg1 b3 ∗ held c arg6 Q ∗ heldSt c arg7 arg8 arg10 (stepSt v10 v11 (xt x3 t) (bt b3 t) Q hw s))) :=
  trip2 c arg0 harg0 arg1 harg1 arg2 harg2 arg3 harg3 arg4 harg4 arg5 harg5 arg6 harg6 arg7 harg7 arg8 harg8 arg9 harg9 arg10 harg10 v10 v11 Q x3 b3 Q s t hw

/-- The loop of step 4 runs the same trips. -/
theorem trip4 (c : Dev nD) (arg0 : Memref sig .tc .vmem S50x2000x128 .f32) (harg0 : arg0.IsWhole) (arg1 : Memref sig .tc .vmem S50x1x2000 .i32) (harg1 : arg1.IsWhole) (arg2 : Memref sig .tc .vmem S512x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (v10 : IVec S32x2000 32) (v11 : IVec S512x2000 32) (v177 : FVec F S512x128 .f32)
    (x3 : Vec F S50x2000x128 .f32) (b3 : Vec F S50x1x2000 .i32) (Q : Vec F S512x128 .f32) (s : St F)
    (t : Fin k0_t2_loop.trips) (hw : k0_chk2 (lo (bt b3 t)) (hi (bt b3 t))) :
    iprop(held c arg0 x3 ∗ held c arg1 b3 ∗ held c arg6 Q ∗ heldSt c arg7 arg8 arg10 s)
      ⊢ wp frame (wpE (defs₀ (F := F)) 𝒱₀ c none) Set.univ
        (k0_t4_body arg0 harg0 arg1 harg1 arg2 harg2 arg3 harg3 arg4 harg4 arg5 harg5 arg6 harg6 arg7 harg7 arg8 harg8 arg9 harg9 arg10 harg10 v10 v11 v177 t ())
        (fun _ => iprop(held c arg0 x3 ∗ held c arg1 b3 ∗ held c arg6 Q ∗ heldSt c arg7 arg8 arg10 (stepSt v10 v11 (xt x3 t) (bt b3 t) Q hw s))) :=
  trip2 c arg0 harg0 arg1 harg1 arg2 harg2 arg3 harg3 arg4 harg4 arg5 harg5 arg6 harg6 arg7 harg7 arg8 harg8 arg9 harg9 arg10 harg10 v10 v11 Q x3 b3 Q s t hw

/-- One trip of the first step's loop: the scratch goes to the state of `stepSt`, the count to that of `stepC`, the inputs and the query stay. -/
theorem trip1 (c : Dev nD) (arg0 : Memref sig .tc .vmem S50x2000x128 .f32) (harg0 : arg0.IsWhole) (arg1 : Memref sig .tc .vmem S50x1x2000 .i32) (harg1 : arg1.IsWhole) (arg2 : Memref sig .tc .vmem S512x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (v10 : IVec S32x2000 32) (v11 : IVec S512x2000 32) (v0 : Vec F S512x256 .f32) (v1 : Vec F S512x128 .f32) (v3 : FVec F S1x512 .f32) (v8 v9 : FVec F S512x128 .f32)
    (x3 : Vec F S50x2000x128 .f32) (b3 : Vec F S50x1x2000 .i32) (Q : Vec F S512x128 .f32) (s : St F) (C : Vec F S512x1 .f32)
    (t : Fin k0_t2_loop.trips) (hw : k0_chk2 (lo (bt b3 t)) (hi (bt b3 t))) :
    iprop(held c arg0 x3 ∗ held c arg1 b3 ∗ held c arg6 Q ∗ heldSt c arg7 arg8 arg10 s ∗ held c arg9 C)
      ⊢ wp frame (wpE (defs₀ (F := F)) 𝒱₀ c none) Set.univ
        (k0_t1_body arg0 harg0 arg1 harg1 arg2 harg2 arg3 harg3 arg4 harg4 arg5 harg5 arg6 harg6 arg7 harg7 arg8 harg8 arg9 harg9 arg10 harg10 v0 v1 v3 v8 v9 v10 v11 0#32 1#32 t ())
        (fun _ => iprop(held c arg0 x3 ∗ held c arg1 b3 ∗ held c arg6 Q ∗ heldSt c arg7 arg8 arg10 (stepSt v10 v11 (xt x3 t) (bt b3 t) Q hw s) ∗ held c arg9 (stepC v10 v11 (bt b3 t) hw C))) := by
  have rx : View.readAt (Elt F) arg0.view (Rect.unit (s := S50x2000x128) (k0_off5 t) S1x2000x128.size (k0_off5_inb t)).toLoadRect (arg0.view.rep x3) = xt x3 t :=
    View.readAt_rep_unit _ _ _ rfl _
  have rb : View.readAt (Elt F) arg1.view (Rect.unit (s := S50x1x2000) (k0_off6 t) S1x1x2000.size (k0_off6_inb t)).toLoadRect (arg1.view.rep b3) = bt b3 t :=
    View.readAt_rep_unit _ _ _ rfl _
  have hw' : k0_chk1 (extractAt ![0, 0, 0] (k0_pay20 (F := F) (bt b3 t)) inpos_S1x1x1_p0_0_0) (extractAt ![0, 0, 0] (k0_pay21 (F := F) (bt b3 t)) inpos_S1x1x1_p0_0_0) := hw
  unfold k0_t1_body
  by_cases hW : wideW (lo (bt b3 t)) (hi (bt b3 t)) = 1#1
  · have hN : ¬ k0_cond3 (lo (bt b3 t)) (hi (bt b3 t)) = 1#1 := fun h => (narrow_iff _ _).1 h hW
    have hN' : ¬ k0_cond1 (extractAt ![0, 0, 0] (k0_pay20 (F := F) (bt b3 t)) inpos_S1x1x1_p0_0_0) (extractAt ![0, 0, 0] (k0_pay21 (F := F) (bt b3 t)) inpos_S1x1x1_p0_0_0) = 1#1 := hN
    have hW' := hW
    unfold lo hi at hW' hN
    unfold wideW base at hW'
    rw [show stepSt v10 v11 (xt x3 t) (bt b3 t) Q hw s = wideSt v11 (xt x3 t) (bt b3 t) Q s from dif_pos hW, show stepC v10 v11 (bt b3 t) hw C = k0_pay94 (k0_pay11 v11 (k0_pay40 (F := F) (bt b3 t))) C from dif_pos hW]
    iintro ⟨H0, H1, H6, ⟨H7, H8, H10⟩, H9⟩
    have r6 := View.readAt_rep_full (Val := Elt F) arg6.view Q (off := ![0, 0]) inb_S512x128_S512x128_0_0
    have r7 := View.readAt_rep_full (Val := Elt F) arg7.view s.M (off := ![0, 0]) inb_S512x1_S512x1_0_0
    have r8 := View.readAt_rep_full (Val := Elt F) arg8.view s.S (off := ![0, 0]) inb_S512x1_S512x1_0_0
    have r9 := View.readAt_rep_full (Val := Elt F) arg9.view C (off := ![0, 0]) inb_S512x1_S512x1_0_0
    have r10 := View.readAt_rep_full (Val := Elt F) arg10.view s.R (off := ![0, 0]) inb_S512x128_S512x128_0_0
    sl_exec
    sl_step
    isplitl [H0]; · iexact H0
    isplitl [H1]; · iexact H1
    isplitl [H6]; · iexact H6
    isplitl [H7 H8 H10]
    on_goal 1 => isplitl [H7]
    · iapply (held_of_read c arg7 _ (wideSt v11 (xt x3 t) (bt b3 t) Q s).M ((View.read_writes_full _ _ _ _ []).trans (by rfl))) $$ H7
    on_goal 1 => isplitl [H8]
    · iapply (held_of_read c arg8 _ (wideSt v11 (xt x3 t) (bt b3 t) Q s).S ((View.read_writes_full _ _ _ _ []).trans (by rfl))) $$ H8
    · iapply (held_of_read c arg10 _ (wideSt v11 (xt x3 t) (bt b3 t) Q s).R ((View.read_writes_full _ _ _ _ []).trans (by rfl))) $$ H10
    · iapply (held_of_read c arg9 _ (k0_pay94 (k0_pay11 v11 (k0_pay40 (F := F) (bt b3 t))) C) ((View.read_writes_full _ _ _ _ []).trans (by rfl))) $$ H9
  · have hN : k0_cond3 (lo (bt b3 t)) (hi (bt b3 t)) = 1#1 := (narrow_iff _ _).2 hW
    have hN' : k0_cond1 (extractAt ![0, 0, 0] (k0_pay20 (F := F) (bt b3 t)) inpos_S1x1x1_p0_0_0) (extractAt ![0, 0, 0] (k0_pay21 (F := F) (bt b3 t)) inpos_S1x1x1_p0_0_0) = 1#1 := hN
    have hW' := hW
    rw [show stepSt v10 v11 (xt x3 t) (bt b3 t) Q hw s = narrowSt v10 (xt x3 t) (bt b3 t) Q (hw.1 hN) (hw.2 hN) s from dif_neg hW, show stepC v10 v11 (bt b3 t) hw C = narrowC v10 (bt b3 t) (hw.2 hN) C from dif_neg hW]
    unfold lo hi at hW' hN
    unfold wideW base at hW'
    iintro ⟨H0, H1, H6, ⟨H7, H8, H10⟩, H9⟩
    have r6 := View.readAt_rep_unit (Val := Elt F) arg6.view Q (hw.1 hN) rfl (hw.1 hN)
    have r7 := View.readAt_rep_unit (Val := Elt F) arg7.view s.M (hw.2 hN) rfl (hw.2 hN)
    have r8 := View.readAt_rep_unit (Val := Elt F) arg8.view s.S (hw.2 hN) rfl (hw.2 hN)
    have r9 := View.readAt_rep_unit (Val := Elt F) arg9.view C (hw.2 hN) rfl (hw.2 hN)
    have r10 := View.readAt_rep_unit (Val := Elt F) arg10.view s.R (hw.1 hN) rfl (hw.1 hN)
    sl_exec
    sl_step
    isplitl [H0]; · iexact H0
    isplitl [H1]; · iexact H1
    isplitl [H6]; · iexact H6
    isplitl [H7 H8 H10]
    on_goal 1 => isplitl [H7]
    · iapply (held_of_read c arg7 _ (narrowSt v10 (xt x3 t) (bt b3 t) Q (hw.1 hN) (hw.2 hN) s).M
        ((View.read_writes_rep_unit _ _ _ _ rfl).trans (by rfl))) $$ H7
    on_goal 1 => isplitl [H8]
    · iapply (held_of_read c arg8 _ (narrowSt v10 (xt x3 t) (bt b3 t) Q (hw.1 hN) (hw.2 hN) s).S
        ((View.read_writes_rep_unit _ _ _ _ rfl).trans (by rfl))) $$ H8
    · iapply (held_of_read c arg10 _ (narrowSt v10 (xt x3 t) (bt b3 t) Q (hw.1 hN) (hw.2 hN) s).R
        ((View.read_writes_rep_unit _ _ _ _ rfl).trans (by rfl))) $$ H10
    · iapply (held_of_read c arg9 _ (narrowC v10 (bt b3 t) (hw.2 hN) C) ((View.read_writes_rep_unit _ _ _ _ rfl).trans (by rfl))) $$ H9

end Cert.Proof.K
end
-- ==== Proof.Run.lean ====
module

public import proofs.«01_k».proof.Proof.Trip
public import proofs.«01_k».proof.Proof.Gen.KernelIdeal.Frame
public import proofs.«01_k».proof.Proof.Gen.KernelIdeal.Skeleton
public import Idealize.ShloMosaic.Lib.VecWindow
public import Idealize.ShloMosaic.Lib.Tactic

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Every tile's words satisfy what the body assumes of them. -/
abbrev Tiles (b3 : Vec F S50x1x2000 .i32) : Prop := ∀ t, k0_chk2 (lo (bt b3 t)) (hi (bt b3 t))

/-- The scratch after `n` trips of a step whose query is `Q`. -/
def runSt (x3 : Vec F S50x2000x128 .f32) (b3 : Vec F S50x1x2000 .i32) (hw : Tiles b3) (v10 : IVec S32x2000 32) (v11 : IVec S512x2000 32) (Q : Vec F S512x128 .f32) (s : St F) : ℕ → St F
  | 0 => s
  | n + 1 => if h : n < k0_t2_loop.trips then stepSt v10 v11 (xt x3 ⟨n, h⟩) (bt b3 ⟨n, h⟩) Q (hw ⟨n, h⟩) (runSt x3 b3 hw v10 v11 Q s n) else runSt x3 b3 hw v10 v11 Q s n

/-- The count after `n` trips. -/
def runC (b3 : Vec F S50x1x2000 .i32) (hw : Tiles b3) (v10 : IVec S32x2000 32) (v11 : IVec S512x2000 32) (C : Vec F S512x1 .f32) : ℕ → Vec F S512x1 .f32
  | 0 => C
  | n + 1 => if h : n < k0_t2_loop.trips then stepC v10 v11 (bt b3 ⟨n, h⟩) (hw ⟨n, h⟩) (runC b3 hw v10 v11 C n) else runC b3 hw v10 v11 C n

theorem runSt_succ (x3 : Vec F S50x2000x128 .f32) (b3 : Vec F S50x1x2000 .i32) (hw : Tiles b3) (v10 : IVec S32x2000 32) (v11 : IVec S512x2000 32) (Q : Vec F S512x128 .f32) (s : St F) (t : Fin k0_t2_loop.trips) :
    runSt x3 b3 hw v10 v11 Q s (t.val + 1) = stepSt v10 v11 (xt x3 t) (bt b3 t) Q (hw t) (runSt x3 b3 hw v10 v11 Q s t.val) := dif_pos t.isLt

theorem runC_succ (b3 : Vec F S50x1x2000 .i32) (hw : Tiles b3) (v10 : IVec S32x2000 32) (v11 : IVec S512x2000 32) (C : Vec F S512x1 .f32) (t : Fin k0_t2_loop.trips) :
    runC b3 hw v10 v11 C (t.val + 1) = stepC v10 v11 (bt b3 t) (hw t) (runC b3 hw v10 v11 C t.val) := dif_pos t.isLt

/-- What a later step's loop holds before trip `n`. -/
abbrev inv2 (c : Dev nD) (arg0 : Memref sig .tc .vmem S50x2000x128 .f32) (arg1 : Memref sig .tc .vmem S50x1x2000 .i32) (arg6 : Memref sig .tc .vmem S512x128 .f32)
    (arg7 arg8 : Memref sig .tc .vmem S512x1 .f32) (arg10 : Memref sig .tc .vmem S512x128 .f32)
    (x3 : Vec F S50x2000x128 .f32) (b3 : Vec F S50x1x2000 .i32) (hw : Tiles b3) (v10 : IVec S32x2000 32) (v11 : IVec S512x2000 32) (Q : Vec F S512x128 .f32) (s : St F)
    (n : ℕ) (_ : Unit) : sProp 𝕄 :=
  iprop(held c arg0 x3 ∗ held c arg1 b3 ∗ held c arg6 Q ∗ heldSt c arg7 arg8 arg10 (runSt x3 b3 hw v10 v11 Q s n))

/-- What the first step's loop holds before trip `n`. -/
abbrev inv1 (c : Dev nD) (arg0 : Memref sig .tc .vmem S50x2000x128 .f32) (arg1 : Memref sig .tc .vmem S50x1x2000 .i32) (arg6 : Memref sig .tc .vmem S512x128 .f32)
    (arg7 arg8 arg9 : Memref sig .tc .vmem S512x1 .f32) (arg10 : Memref sig .tc .vmem S512x128 .f32)
    (x3 : Vec F S50x2000x128 .f32) (b3 : Vec F S50x1x2000 .i32) (hw : Tiles b3) (v10 : IVec S32x2000 32) (v11 : IVec S512x2000 32) (Q : Vec F S512x128 .f32) (s : St F)
    (C : Vec F S512x1 .f32) (n : ℕ) (_ : Unit) : sProp 𝕄 :=
  iprop(held c arg0 x3 ∗ held c arg1 b3 ∗ held c arg6 Q ∗ heldSt c arg7 arg8 arg10 (runSt x3 b3 hw v10 v11 Q s n) ∗ held c arg9 (runC b3 hw v10 v11 C n))

/-- The row numbers of the 32-row window. -/
def i32 : IVec S32x2000 32 := iota .tc S32x2000 32 [0] iota_S32x2000_d0_w32
/-- The row numbers of all 512 rows. -/
def i512 : IVec S512x2000 32 := iota .tc S512x2000 32 [0] iota_S512x2000_d0_w32

/-- The scratch at a step's start. -/
def st0 : St F := ⟨k0_pay89, k0_pay90, k0_pay91⟩

/-- The scratch a step with query `Q` leaves. -/
abbrev stepEnd (x3 : Vec F S50x2000x128 .f32) (b3 : Vec F S50x1x2000 .i32) (hw : Tiles b3) (Q : Vec F S512x128 .f32) : St F :=
  runSt x3 b3 hw i32 i512 Q st0 k0_t2_loop.trips

/-- The counts of the graphs. -/
abbrev counts (b3 : Vec F S50x1x2000 .i32) (hw : Tiles b3) : Vec F S512x1 .f32 := runC b3 hw i32 i512 k0_pay92 k0_t2_loop.trips

/-- The kernel's result from its five windows: four steps and the last readout beside the last hidden state. -/
def outV (x3 : Vec F S50x2000x128 .f32) (b3 : Vec F S50x1x2000 .i32) (hw : Tiles b3) (Wi : Vec F S512x256 .f32) (Wh : Vec F S512x128 .f32) (bi : Vec F S1x512 .f32) : Vec F S512x256 .f32 :=
  let C := counts b3 hw
  let v3 := k0_pay85 bi
  let Q0 := k0_pay86
  let s1 := stepEnd x3 b3 hw Q0
  let c1 := k0_pay96 Wi Wh v3 k0_pay87 k0_pay88 s1.S s1.R C Q0
  let h1 := k0_pay97 Wi Wh v3 k0_pay87 k0_pay88 s1.S s1.R C Q0
  let Q1 := k0_pay98 h1
  let s2 := stepEnd x3 b3 hw Q1
  let r2 := k0_pay103 s2.S s2.R
  let n2 := k0_pay104 C
  let c2 := k0_pay106 Wi Wh v3 c1 h1 r2 n2 Q1
  let h2 := k0_pay107 Wi Wh v3 c1 h1 r2 n2 Q1
  let Q2 := k0_pay108 Wi Wh v3 c1 h1 r2 n2 Q1
  let s3 := stepEnd x3 b3 hw Q2
  let c3 := k0_pay114 Wi Wh v3 c2 h2 s3.S s3.R C Q2
  let h3 := k0_pay115 Wi Wh v3 c2 h2 s3.S s3.R C Q2
  let Q3 := k0_pay116 h3
  let s4 := stepEnd x3 b3 hw Q3
  let r4 := k0_pay121 s4.S s4.R
  let n4 := k0_pay122 C
  k0_pay3 r4 n4 (k0_pay2 Wi Wh v3 c3 h3 r4 n4 Q3)

theorem body_run (c : Dev nD) (arg0 : Memref sig .tc .vmem S50x2000x128 .f32) (harg0 : arg0.IsWhole) (arg1 : Memref sig .tc .vmem S50x1x2000 .i32) (harg1 : arg1.IsWhole) (arg2 : Memref sig .tc .vmem S512x256 .f32) (harg2 : arg2.IsWhole) (arg3 : Memref sig .tc .vmem S512x128 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S512x128 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x128 .f32) (harg10 : arg10.IsWhole)
    (x3 : Vec F S50x2000x128 .f32) (b3 : Vec F S50x1x2000 .i32) (hw : Tiles b3) (Wi : Vec F S512x256 .f32) (Wh : Vec F S512x128 .f32) (bi : Vec F S1x512 .f32)
    (O : Vec F S512x256 .f32) (Q R : Vec F S512x128 .f32) (M S C : Vec F S512x1 .f32) :
    iprop(held c arg0 x3 ∗ held c arg1 b3 ∗ held c arg2 Wi ∗ held c arg3 Wh ∗ held c arg4 bi ∗ held c arg5 O ∗ held c arg6 Q ∗ held c arg7 M ∗ held c arg8 S ∗ held c arg9 C ∗ held c arg10 R)
      ⊢ wp frame (wpE (defs₀ (F := F)) 𝒱₀ c none) Set.univ
        (cc0__set2set_kernel arg0 harg0 arg1 harg1 arg2 harg2 arg3 harg3 arg4 harg4 arg5 harg5 arg6 harg6 arg7 harg7 arg8 harg8 arg9 harg9 arg10 harg10)
        (fun _ => iprop(held c arg0 x3 ∗ held c arg1 b3 ∗ held c arg2 Wi ∗ held c arg3 Wh ∗ held c arg4 bi ∗ held c arg5 (outV x3 b3 hw Wi Wh bi)
          ∗ (∃ Q', held c arg6 Q') ∗ (∃ M', held c arg7 M') ∗ (∃ S', held c arg8 S') ∗ (∃ C', held c arg9 C') ∗ (∃ R', held c arg10 R'))) := by
  have r2 := View.readAt_rep_full (Val := Elt F) arg2.view Wi (off := ![0, 0]) inb_S512x256_S512x256_0_0
  have r3 := View.readAt_rep_full (Val := Elt F) arg3.view Wh (off := ![0, 0]) inb_S512x128_S512x128_0_0
  have r4 := View.readAt_rep_full (Val := Elt F) arg4.view bi (off := ![0, 0]) inb_S1x512_S1x512_0_0
  iintro ⟨H0, H1, H2, H3, H4, H5, H6, H7, H8, H9, H10⟩
  sl_unfold [cc0__set2set_kernel]
  sl_exec
  dsimp only [body_run.sl.H6_1, body_run.sl.H7_1, body_run.sl.H8_1, body_run.sl.H9_1, body_run.sl.H10_1]
  ihave H6 := (held_of_read c arg6 _ k0_pay86 ((View.read_writes_full _ _ _ _ []).trans (by rfl))) $$ H6
  ihave H7 := (held_of_read c arg7 _ k0_pay89 ((View.read_writes_full _ _ _ _ []).trans (by rfl))) $$ H7
  ihave H8 := (held_of_read c arg8 _ k0_pay90 ((View.read_writes_full _ _ _ _ []).trans (by rfl))) $$ H8
  ihave H9 := (held_of_read c arg9 _ k0_pay92 ((View.read_writes_full _ _ _ _ []).trans (by rfl))) $$ H9
  ihave H10 := (held_of_read c arg10 _ k0_pay91 ((View.read_writes_full _ _ _ _ []).trans (by rfl))) $$ H10
  sl_for (inv1 c arg0 arg1 arg6 arg7 arg8 arg9 arg10 x3 b3 hw i32 i512 k0_pay86 st0 k0_pay92) $$ [H0 H1 H6 H7 H8 H9 H10]
  case region =>
    intro k _
    show _ ⊢ wp _ _ _ _ (fun _ => inv1 c arg0 arg1 arg6 arg7 arg8 arg9 arg10 x3 b3 hw i32 i512 k0_pay86 st0 k0_pay92 (k.val + 1) ())
    unfold inv1
    rw [runSt_succ, runC_succ]
    exact trip1 c arg0 harg0 arg1 harg1 arg2 harg2 arg3 harg3 arg4 harg4 arg5 harg5 arg6 harg6 arg7 harg7 arg8 harg8 arg9 harg9 arg10 harg10 i32 i512 Wi Wh (k0_pay85 bi) k0_pay87 k0_pay88 x3 b3 k0_pay86 _ _ k (hw k)
  · isplitl [H0]; · iexact H0
    isplitl [H1]; · iexact H1
    isplitl [H6]; · iexact H6
    isplitr [H9]
    on_goal 2 => iexact H9
    isplitl [H7]; · iexact H7
    isplitl [H8]; · iexact H8
    iexact H10
  iintro %_ ⟨H0, H1, H6, ⟨H7, H8, H10⟩, H9⟩
  generalize hs1 : runSt x3 b3 hw i32 i512 k0_pay86 st0 _ = s1
  generalize hCn : runC b3 hw i32 i512 k0_pay92 _ = Cn
  have r9 := View.readAt_rep_full (Val := Elt F) arg9.view Cn (off := ![0, 0]) inb_S512x1_S512x1_0_0
  have r6 := View.readAt_rep_full (Val := Elt F) arg6.view k0_pay86 (off := ![0, 0]) inb_S512x128_S512x128_0_0
  have r8 := View.readAt_rep_full (Val := Elt F) arg8.view s1.S (off := ![0, 0]) inb_S512x1_S512x1_0_0
  have r10 := View.readAt_rep_full (Val := Elt F) arg10.view s1.R (off := ![0, 0]) inb_S512x128_S512x128_0_0
  sl_exec
  dsimp only [body_run.sl.H6_1_1, body_run.sl.H7_1_1, body_run.sl.H8_1_1, body_run.sl.H10_1_1]
  ihave H6 := (held_of_read c arg6 _ (k0_pay98 (k0_pay97 Wi Wh (k0_pay85 bi) k0_pay87 k0_pay88 s1.S s1.R Cn k0_pay86)) ((View.read_writes_full _ _ _ _ []).trans (by rfl))) $$ H6
  ihave H7 := (held_of_read c arg7 _ k0_pay89 ((View.read_writes_full _ _ _ _ []).trans (by rfl))) $$ H7
  ihave H8 := (held_of_read c arg8 _ k0_pay90 ((View.read_writes_full _ _ _ _ []).trans (by rfl))) $$ H8
  ihave H10 := (held_of_read c arg10 _ k0_pay91 ((View.read_writes_full _ _ _ _ []).trans (by rfl))) $$ H10
  generalize hQ1 : k0_pay98 (F := F) _ = Q1
  sl_for (inv2 c arg0 arg1 arg6 arg7 arg8 arg10 x3 b3 hw i32 i512 Q1 st0) $$ [H0 H1 H6 H7 H8 H10]
  case region =>
    intro k _
    show _ ⊢ wp _ _ _ _ (fun _ => inv2 c arg0 arg1 arg6 arg7 arg8 arg10 x3 b3 hw i32 i512 Q1 st0 (k.val + 1) ())
    unfold inv2
    rw [runSt_succ]
    exact trip2 c arg0 harg0 arg1 harg1 arg2 harg2 arg3 harg3 arg4 harg4 arg5 harg5 arg6 harg6 arg7 harg7 arg8 harg8 arg9 harg9 arg10 harg10 i32 i512 _ x3 b3 Q1 _ k (hw k)
  · isplitl [H0]; · iexact H0
    isplitl [H1]; · iexact H1
    isplitl [H6]; · iexact H6
    isplitl [H7]; · iexact H7
    isplitl [H8]; · iexact H8
    iexact H10
  iintro %_ ⟨H0, H1, H6, ⟨H7, H8, H10⟩⟩
  generalize hs2 : runSt x3 b3 hw i32 i512 Q1 st0 _ = s2
  clear r6 r8 r10
  have r6 := View.readAt_rep_full (Val := Elt F) arg6.view Q1 (off := ![0, 0]) inb_S512x128_S512x128_0_0
  have r8 := View.readAt_rep_full (Val := Elt F) arg8.view s2.S (off := ![0, 0]) inb_S512x1_S512x1_0_0
  have r10 := View.readAt_rep_full (Val := Elt F) arg10.view s2.R (off := ![0, 0]) inb_S512x128_S512x128_0_0
  sl_exec
  dsimp only [body_run.sl.H6_1_2, body_run.sl.H7_1_2, body_run.sl.H8_1_2, body_run.sl.H10_1_2]
  ihave H6 := (held_of_read c arg6 _ (k0_pay108 Wi Wh (k0_pay85 bi) (k0_pay96 Wi Wh (k0_pay85 bi) k0_pay87 k0_pay88 s1.S s1.R Cn k0_pay86) (k0_pay97 Wi Wh (k0_pay85 bi) k0_pay87 k0_pay88 s1.S s1.R Cn k0_pay86) (k0_pay103 s2.S s2.R) (k0_pay104 Cn) Q1) ((View.read_writes_full _ _ _ _ []).trans (by rfl))) $$ H6
  ihave H7 := (held_of_read c arg7 _ k0_pay89 ((View.read_writes_full _ _ _ _ []).trans (by rfl))) $$ H7
  ihave H8 := (held_of_read c arg8 _ k0_pay90 ((View.read_writes_full _ _ _ _ []).trans (by rfl))) $$ H8
  ihave H10 := (held_of_read c arg10 _ k0_pay91 ((View.read_writes_full _ _ _ _ []).trans (by rfl))) $$ H10
  generalize hQ2 : k0_pay108 (F := F) _ _ _ _ _ _ _ _ = Q2
  sl_for (inv2 c arg0 arg1 arg6 arg7 arg8 arg10 x3 b3 hw i32 i512 Q2 st0) $$ [H0 H1 H6 H7 H8 H10]
  case region =>
    intro k _
    show _ ⊢ wp _ _ _ _ (fun _ => inv2 c arg0 arg1 arg6 arg7 arg8 arg10 x3 b3 hw i32 i512 Q2 st0 (k.val + 1) ())
    unfold inv2
    rw [runSt_succ]
    exact trip3 c arg0 harg0 arg1 harg1 arg2 harg2 arg3 harg3 arg4 harg4 arg5 harg5 arg6 harg6 arg7 harg7 arg8 harg8 arg9 harg9 arg10 harg10 i32 i512 Wi Wh (k0_pay85 bi) _ _ x3 b3 Q2 _ k (hw k)
  · isplitl [H0]; · iexact H0
    isplitl [H1]; · iexact H1
    isplitl [H6]; · iexact H6
    isplitl [H7]; · iexact H7
    isplitl [H8]; · iexact H8
    iexact H10
  iintro %_ ⟨H0, H1, H6, ⟨H7, H8, H10⟩⟩
  generalize hs3 : runSt x3 b3 hw i32 i512 Q2 st0 _ = s3
  clear r6 r8 r10
  have r6 := View.readAt_rep_full (Val := Elt F) arg6.view Q2 (off := ![0, 0]) inb_S512x128_S512x128_0_0
  have r8 := View.readAt_rep_full (Val := Elt F) arg8.view s3.S (off := ![0, 0]) inb_S512x1_S512x1_0_0
  have r10 := View.readAt_rep_full (Val := Elt F) arg10.view s3.R (off := ![0, 0]) inb_S512x128_S512x128_0_0
  sl_exec
  dsimp only [body_run.sl.H6_1_3, body_run.sl.H7_1_3, body_run.sl.H8_1_3, body_run.sl.H10_1_3]
  ihave H6 := (held_of_read c arg6 _ (k0_pay116 (k0_pay115 Wi Wh (k0_pay85 bi) (k0_pay106 Wi Wh (k0_pay85 bi) (k0_pay96 Wi Wh (k0_pay85 bi) k0_pay87 k0_pay88 s1.S s1.R Cn k0_pay86) (k0_pay97 Wi Wh (k0_pay85 bi) k0_pay87 k0_pay88 s1.S s1.R Cn k0_pay86) (k0_pay103 s2.S s2.R) (k0_pay104 Cn) Q1) (k0_pay107 Wi Wh (k0_pay85 bi) (k0_pay96 Wi Wh (k0_pay85 bi) k0_pay87 k0_pay88 s1.S s1.R Cn k0_pay86) (k0_pay97 Wi Wh (k0_pay85 bi) k0_pay87 k0_pay88 s1.S s1.R Cn k0_pay86) (k0_pay103 s2.S s2.R) (k0_pay104 Cn) Q1) s3.S s3.R Cn Q2)) ((View.read_writes_full _ _ _ _ []).trans (by rfl))) $$ H6
  ihave H7 := (held_of_read c arg7 _ k0_pay89 ((View.read_writes_full _ _ _ _ []).trans (by rfl))) $$ H7
  ihave H8 := (held_of_read c arg8 _ k0_pay90 ((View.read_writes_full _ _ _ _ []).trans (by rfl))) $$ H8
  ihave H10 := (held_of_read c arg10 _ k0_pay91 ((View.read_writes_full _ _ _ _ []).trans (by rfl))) $$ H10
  generalize hQ3 : k0_pay116 (F := F) _ = Q3
  sl_for (inv2 c arg0 arg1 arg6 arg7 arg8 arg10 x3 b3 hw i32 i512 Q3 st0) $$ [H0 H1 H6 H7 H8 H10]
  case region =>
    intro k _
    show _ ⊢ wp _ _ _ _ (fun _ => inv2 c arg0 arg1 arg6 arg7 arg8 arg10 x3 b3 hw i32 i512 Q3 st0 (k.val + 1) ())
    unfold inv2
    rw [runSt_succ]
    exact trip4 c arg0 harg0 arg1 harg1 arg2 harg2 arg3 harg3 arg4 harg4 arg5 harg5 arg6 harg6 arg7 harg7 arg8 harg8 arg9 harg9 arg10 harg10 i32 i512 _ x3 b3 Q3 _ k (hw k)
  · isplitl [H0]; · iexact H0
    isplitl [H1]; · iexact H1
    isplitl [H6]; · iexact H6
    isplitl [H7]; · iexact H7
    isplitl [H8]; · iexact H8
    iexact H10
  iintro %_ ⟨H0, H1, H6, ⟨H7, H8, H10⟩⟩
  generalize hs4 : runSt x3 b3 hw i32 i512 Q3 st0 _ = s4
  clear r6 r8 r10
  have r6 := View.readAt_rep_full (Val := Elt F) arg6.view Q3 (off := ![0, 0]) inb_S512x128_S512x128_0_0
  have r8 := View.readAt_rep_full (Val := Elt F) arg8.view s4.S (off := ![0, 0]) inb_S512x1_S512x1_0_0
  have r10 := View.readAt_rep_full (Val := Elt F) arg10.view s4.R (off := ![0, 0]) inb_S512x128_S512x128_0_0
  sl_exec
  sl_step
  isplitl [H0]; · iexact H0
  isplitl [H1]; · iexact H1
  isplitl [H2]; · iexact H2
  isplitl [H3]; · iexact H3
  isplitl [H4]; · iexact H4
  isplitl [H5]
  · have e : outV x3 b3 hw Wi Wh bi = k0_pay3 (k0_pay121 s4.S s4.R) (k0_pay122 Cn) (k0_pay2 Wi Wh (k0_pay85 bi) (k0_pay114 Wi Wh (k0_pay85 bi) (k0_pay106 Wi Wh (k0_pay85 bi) (k0_pay96 Wi Wh (k0_pay85 bi) k0_pay87 k0_pay88 s1.S s1.R Cn k0_pay86) (k0_pay97 Wi Wh (k0_pay85 bi) k0_pay87 k0_pay88 s1.S s1.R Cn k0_pay86) (k0_pay103 s2.S s2.R) (k0_pay104 Cn) Q1) (k0_pay107 Wi Wh (k0_pay85 bi) (k0_pay96 Wi Wh (k0_pay85 bi) k0_pay87 k0_pay88 s1.S s1.R Cn k0_pay86) (k0_pay97 Wi Wh (k0_pay85 bi) k0_pay87 k0_pay88 s1.S s1.R Cn k0_pay86) (k0_pay103 s2.S s2.R) (k0_pay104 Cn) Q1) s3.S s3.R Cn Q2) (k0_pay115 Wi Wh (k0_pay85 bi) (k0_pay106 Wi Wh (k0_pay85 bi) (k0_pay96 Wi Wh (k0_pay85 bi) k0_pay87 k0_pay88 s1.S s1.R Cn k0_pay86) (k0_pay97 Wi Wh (k0_pay85 bi) k0_pay87 k0_pay88 s1.S s1.R Cn k0_pay86) (k0_pay103 s2.S s2.R) (k0_pay104 Cn) Q1) (k0_pay107 Wi Wh (k0_pay85 bi) (k0_pay96 Wi Wh (k0_pay85 bi) k0_pay87 k0_pay88 s1.S s1.R Cn k0_pay86) (k0_pay97 Wi Wh (k0_pay85 bi) k0_pay87 k0_pay88 s1.S s1.R Cn k0_pay86) (k0_pay103 s2.S s2.R) (k0_pay104 Cn) Q1) s3.S s3.R Cn Q2) (k0_pay121 s4.S s4.R) (k0_pay122 Cn) Q3) := by
      rw [← hs4, ← hQ3, ← hs3, ← hQ2, ← hs2, ← hQ1, ← hs1, ← hCn]
      rfl
    rw [e]
    iapply (held_of_read c arg5 _ _ ((View.read_writes_full _ _ _ _ []).trans (by
      first | exact congrArg (k0_pay3 _ _) (View.readCov_full _ _ _ _ _) | exact congrArg (k0_pay3 _ _) (View.readAt_writes_full _ _ _ _ _ _)))) $$ H5
  isplitl [H6]
  · iexists _
    iapply (held_of_read c arg6 _ _ rfl) $$ H6
  isplitl [H7]; · iexists _; iexact H7
  isplitl [H8]; · iexists _; iexact H8
  isplitl [H9]; · iexists _; iexact H9
  iexists _; iexact H10

end Cert.Proof.K
end
-- ==== Proof.Launched.lean ====
module

public import proofs.«01_k».proof.Proof.Run
public import proofs.«01_k».proof.Proof.Gen.KernelIdeal.Frame
public import proofs.«01_k».proof.Proof.Gen.KernelIdeal.Launch

@[expose] public section

set_option maxRecDepth 16384

noncomputable section

namespace Cert.Proof.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf ΦA)

variable {F : FTy → Type} [FloatOps F]

local notation "𝕄" => MT nD τ sig Unit (Elt F) ℕ (UR sig nD τ) ℕ

/-- Owning a memref at the contents `X` is holding it at `X`. -/
theorem held_of_owns (c : Dev nD) {sp : Space} {s : Shape} {e : EltTy} (m : Memref sig .tc sp s e) (X : Vec F s e) :
    (owns (c : Thread nD τ) m fullShare X : sProp 𝕄) ⊢ held c m X := by
  unfold owns
  iintro ⟨%f, %hf, H⟩
  iapply (held_of_read c m f X hf) $$ H

theorem owns_of_held (c : Dev nD) {sp : Space} {s : Shape} {e : EltTy} (m : Memref sig .tc sp s e) (X : Vec F s e) :
    (held c m X : sProp 𝕄) ⊢ owns (c : Thread nD τ) m fullShare X := by
  unfold owns
  iintro H
  iexists m.view.rep X
  isplitr
  · ipureintro; exact View.read_rep _ _
  iexact H

/-- A scratch buffer at any contents is held at some contents, and back. -/
theorem held_of_scratch (c : Dev nD) (b : Ref sig .tc) :
    (iprop(∃ f : Buf (Elt F) ((c : Thread nD τ).loc b), ((c : Thread nD τ).loc b) ↦{fullShare} f) : sProp 𝕄) ⊢ iprop(∃ X, held c (Memref.whole b) X) := by
  iintro ⟨%f, H⟩
  iexists _
  iapply (held_of_read c (Memref.whole b) f _ rfl)
  rw [View.set_whole]
  iexact H

theorem scratch_of_held (c : Dev nD) (b : Ref sig .tc) :
    (iprop(∃ X, held c (Memref.whole b) X) : sProp 𝕄) ⊢ iprop(∃ f : Buf (Elt F) ((c : Thread nD τ).loc b), ((c : Thread nD τ).loc b) ↦{fullShare} f) := by
  iintro ⟨%X, H⟩
  iexists (Memref.whole b).view.rep X
  unfold held
  rw [show (Memref.whole b).view.set = Finset.univ from View.set_whole b]
  iexact H

variable (m : (ℓ : Loc nD τ sig) → Buf (Elt F) ℓ) (ρ : Dev nD → PrngReg)

/-- The five windows' blocks at the one point, at their shapes. -/
abbrev X3 (c : Dev nD) (t : Fin cfg0.N) : Vec F S50x2000x128 .f32 := iblk m c 0 t
abbrev B3 (c : Dev nD) (t : Fin cfg0.N) : Vec F S50x1x2000 .i32 := iblk m c 1 t
abbrev Wi (c : Dev nD) (t : Fin cfg0.N) : Vec F S512x256 .f32 := iblk m c 2 t
abbrev Wh (c : Dev nD) (t : Fin cfg0.N) : Vec F S512x128 .f32 := iblk m c 3 t
abbrev Bi (c : Dev nD) (t : Fin cfg0.N) : Vec F S1x512 .f32 := iblk m c 4 t

/-- Every tile of graph numbers the kernel finds satisfies what its body assumes. -/
abbrev TilesAll : Prop := ∀ (c : Dev nD) (t : Fin cfg0.N), Tiles (B3 m c t)

/-- The result window's buffer after the body. -/
def outsAt (hw : TilesAll m) (c : Dev nD) (t : Fin cfg0.N) : Vec F S512x256 .f32 := outV (X3 m c t) (B3 m c t) (hw c t) (Wi m c t) (Wh m c t) (Bi m c t)

/-- The pipeline's proof data: each input's buffer at its block, the result's at `outsAt`. -/
def dats (hw : TilesAll m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outsAt m hw c t
  Φ _ := Pipeline.ΦA spec0 c
  q _ := fullShare
  owed _ := 0

theorem A_eq (hw : TilesAll m) (c : Dev nD) (w : Fin cfg0.W) : (dats m hw 0 c).A w = V m c (Pipeline.arrRef spec0 w) := rfl
theorem after0_0 (hw : TilesAll m) (c : Dev nD) (t : Fin cfg0.N) : (dats m hw 0 c).after 0 t = iblk m c 0 t := by dsimp only [dats]
theorem after0_1 (hw : TilesAll m) (c : Dev nD) (t : Fin cfg0.N) : (dats m hw 0 c).after 1 t = iblk m c 1 t := by dsimp only [dats]
theorem after0_2 (hw : TilesAll m) (c : Dev nD) (t : Fin cfg0.N) : (dats m hw 0 c).after 2 t = iblk m c 2 t := by dsimp only [dats]
theorem after0_3 (hw : TilesAll m) (c : Dev nD) (t : Fin cfg0.N) : (dats m hw 0 c).after 3 t = iblk m c 3 t := by dsimp only [dats]
theorem after0_4 (hw : TilesAll m) (c : Dev nD) (t : Fin cfg0.N) : (dats m hw 0 c).after 4 t = iblk m c 4 t := by dsimp only [dats]
theorem after0_5 (hw : TilesAll m) (c : Dev nD) (t : Fin cfg0.N) : (dats m hw 0 c).after 5 t = outsAt m hw c t := by dsimp only [dats]
theorem before0_0 (hw : TilesAll m) (c : Dev nD) (t : Fin cfg0.N) (d) : (dats m hw 0 c).before 0 t d = iblk m c 0 t :=
  before0_0_of m (dats m hw 0 c) (A_eq m hw c 0) (after0_0 m hw c) t d
theorem before0_1 (hw : TilesAll m) (c : Dev nD) (t : Fin cfg0.N) (d) : (dats m hw 0 c).before 1 t d = iblk m c 1 t :=
  before0_1_of m (dats m hw 0 c) (A_eq m hw c 1) (after0_1 m hw c) t d
theorem before0_2 (hw : TilesAll m) (c : Dev nD) (t : Fin cfg0.N) (d) : (dats m hw 0 c).before 2 t d = iblk m c 2 t :=
  before0_2_of m (dats m hw 0 c) (A_eq m hw c 2) (after0_2 m hw c) t d
theorem before0_3 (hw : TilesAll m) (c : Dev nD) (t : Fin cfg0.N) (d) : (dats m hw 0 c).before 3 t d = iblk m c 3 t :=
  before0_3_of m (dats m hw 0 c) (A_eq m hw c 3) (after0_3 m hw c) t d
theorem before0_4 (hw : TilesAll m) (c : Dev nD) (t : Fin cfg0.N) (d) : (dats m hw 0 c).before 4 t d = iblk m c 4 t :=
  before0_4_of m (dats m hw 0 c) (A_eq m hw c 4) (after0_4 m hw c) t d

/-- The kernel's body, from the windows' blocks and the launch's scratch. -/
theorem body_owns (c : Dev nD) (M0 : Memref sig .tc .vmem S50x2000x128 .f32) (h0 : M0.IsWhole) (M1 : Memref sig .tc .vmem S50x1x2000 .i32) (h1 : M1.IsWhole)
    (M2 : Memref sig .tc .vmem S512x256 .f32) (h2 : M2.IsWhole) (M3 : Memref sig .tc .vmem S512x128 .f32) (h3 : M3.IsWhole)
    (M4 : Memref sig .tc .vmem S1x512 .f32) (h4 : M4.IsWhole) (M5 : Memref sig .tc .vmem S512x256 .f32) (h5 : M5.IsWhole)
    (x3 : Vec F S50x2000x128 .f32) (b3 : Vec F S50x1x2000 .i32) (hw : Tiles b3) (wi : Vec F S512x256 .f32) (wh : Vec F S512x128 .f32) (bi : Vec F S1x512 .f32)
    (O : Vec F S512x256 .f32) (K : PUnit → sProp 𝕄) :
    iprop(owns (c : Thread nD τ) M0 fullShare x3 ∗ owns (c : Thread nD τ) M1 fullShare b3 ∗ owns (c : Thread nD τ) M2 fullShare wi ∗ owns (c : Thread nD τ) M3 fullShare wh
        ∗ owns (c : Thread nD τ) M4 fullShare bi ∗ owns (c : Thread nD τ) M5 fullShare O ∗ Pipeline.ΦA (U := UR sig nD τ) spec0 c
        ∗ (iprop(owns (c : Thread nD τ) M0 fullShare x3 ∗ owns (c : Thread nD τ) M1 fullShare b3 ∗ owns (c : Thread nD τ) M2 fullShare wi ∗ owns (c : Thread nD τ) M3 fullShare wh
        ∗ owns (c : Thread nD τ) M4 fullShare bi ∗ owns (c : Thread nD τ) M5 fullShare (outV x3 b3 hw wi wh bi) ∗ Pipeline.ΦA (U := UR sig nD τ) spec0 c) -∗ K ⟨⟩))
      ⊢ wp frame (wpE (defs₀ (F := F)) 𝒱₀ c none) Set.univ
        (cc0__set2set_kernel M0 h0 M1 h1 M2 h2 M3 h3 M4 h4 M5 h5 (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)) K := by
  unfold Pipeline.ΦA
  rw [scopedRest0_eq]
  iintro ⟨H0, H1, H2, H3, H4, H5, ⟨⟨Hs0, Hs1, Hs2, Hs3, Hs4⟩, Hr⟩, Hk⟩
  ihave H0 := (held_of_owns c M0 x3) $$ H0
  ihave H1 := (held_of_owns c M1 b3) $$ H1
  ihave H2 := (held_of_owns c M2 wi) $$ H2
  ihave H3 := (held_of_owns c M3 wh) $$ H3
  ihave H4 := (held_of_owns c M4 bi) $$ H4
  ihave H5 := (held_of_owns c M5 O) $$ H5
  ihave Hs0 := (held_of_scratch c cc0_scratch0) $$ Hs0
  ihave Hs1 := (held_of_scratch c cc0_scratch1) $$ Hs1
  ihave Hs2 := (held_of_scratch c cc0_scratch2) $$ Hs2
  ihave Hs3 := (held_of_scratch c cc0_scratch3) $$ Hs3
  ihave Hs4 := (held_of_scratch c cc0_scratch4) $$ Hs4
  icases Hs0 with ⟨%Q, Hs0⟩
  icases Hs1 with ⟨%Mx, Hs1⟩
  icases Hs2 with ⟨%S, Hs2⟩
  icases Hs3 with ⟨%C, Hs3⟩
  icases Hs4 with ⟨%R, Hs4⟩
  iapply (wp_wand_r _ _ _)
  isplitr [Hr Hk]
  · iapply (body_run c M0 h0 M1 h1 M2 h2 M3 h3 M4 h4 M5 h5 (Memref.whole cc0_scratch0) (Memref.isWhole_whole _) (Memref.whole cc0_scratch1) (Memref.isWhole_whole _)
          (Memref.whole cc0_scratch2) (Memref.isWhole_whole _) (Memref.whole cc0_scratch3) (Memref.isWhole_whole _) (Memref.whole cc0_scratch4) (Memref.isWhole_whole _)
          x3 b3 hw wi wh bi O Q R Mx S C)
    isplitl [H0]; · iexact H0
    isplitl [H1]; · iexact H1
    isplitl [H2]; · iexact H2
    isplitl [H3]; · iexact H3
    isplitl [H4]; · iexact H4
    isplitl [H5]; · iexact H5
    isplitl [Hs0]; · iexact Hs0
    isplitl [Hs1]; · iexact Hs1
    isplitl [Hs2]; · iexact Hs2
    isplitl [Hs3]; · iexact Hs3
    iexact Hs4
  iintro %_ ⟨H0, H1, H2, H3, H4, H5, Hs0, Hs1, Hs2, Hs3, Hs4⟩
  ihave H0 := (owns_of_held c M0 x3) $$ H0
  ihave H1 := (owns_of_held c M1 b3) $$ H1
  ihave H2 := (owns_of_held c M2 wi) $$ H2
  ihave H3 := (owns_of_held c M3 wh) $$ H3
  ihave H4 := (owns_of_held c M4 bi) $$ H4
  ihave H5 := (owns_of_held c M5 _) $$ H5
  ihave Hs0 := (scratch_of_held c cc0_scratch0) $$ Hs0
  ihave Hs1 := (scratch_of_held c cc0_scratch1) $$ Hs1
  ihave Hs2 := (scratch_of_held c cc0_scratch2) $$ Hs2
  ihave Hs3 := (scratch_of_held c cc0_scratch3) $$ Hs3
  ihave Hs4 := (scratch_of_held c cc0_scratch4) $$ Hs4
  iapply Hk
  isplitl [H0]; · iexact H0
  isplitl [H1]; · iexact H1
  isplitl [H2]; · iexact H2
  isplitl [H3]; · iexact H3
  isplitl [H4]; · iexact H4
  isplitl [H5]; · iexact H5
  isplitr [Hr]
  on_goal 2 => iexact Hr
  isplitl [Hs0]; · iexact Hs0
  isplitl [Hs1]; · iexact Hs1
  isplitl [Hs2]; · iexact Hs2
  isplitl [Hs3]; · iexact Hs3
  iexact Hs4

/-- The library's body obligation. -/
theorem body_obligation (hw : TilesAll m) (c : Dev nD) : BodyObligation (dats (F := F) m hw 0 c) (defs₀ (F := F)) 𝒱₀ () Set.univ := fun t => by
  rw [bigSep_W0, bigSep_W0]
  sl_whnfR [defs₀, Defs.onTc]
  simp only [before0_0, before0_1, before0_2, before0_3, before0_4]
  rw [show (dats m hw 0 c).Φ t.succ = Pipeline.ΦA (U := UR sig nD τ) spec0 c from rfl, show (dats m hw 0 c).Φ t.castSucc = Pipeline.ΦA (U := UR sig nD τ) spec0 c from rfl,
    show (dats m hw 0 c).owesAt () t.succ = (dats m hw 0 c).owesAt () t.castSucc from rfl, after0_0, after0_1, after0_2, after0_3, after0_4, after0_5]
  unfold outsAt
  iintro ⟨HΦ, Ho, ⟨%d0, H0⟩, ⟨%d1, H1⟩, ⟨%d2, H2⟩, ⟨%d3, H3⟩, ⟨%d4, H4⟩, ⟨%d5, H5⟩⟩
  iapply (body_owns c _ _ _ _ _ _ _ _ _ _ _ _ (X3 m c t) (B3 m c t) (hw c t) (Wi m c t) (Wh m c t) (Bi m c t) _ _)
  isplitl [H0]; · iexact H0
  isplitl [H1]; · iexact H1
  isplitl [H2]; · iexact H2
  isplitl [H3]; · iexact H3
  isplitl [H4]; · iexact H4
  isplitl [H5]; · iexact H5
  isplitl [HΦ]; · iexact HΦ
  iintro ⟨H0, H1, H2, H3, H4, H5, HΦ⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

set_option backward.isDefEq.respectTransparency.types false in
/-- From any memory whose tiles of graph numbers satisfy the assumption, every execution ends with the pipeline's arrays at the
    proof data's and every counter at zero. -/
theorem run_main (hw : TilesAll m) : θ_run defs (onTc (τ := τ) (main (F := F))) (s₀ m ρ)
    (fun r => Pipeline.FramePost cfgs (dats m hw) 0 (V m) r ∧ r.2.sem = fun _ => 0) :=
  Pipeline.θ_run_frame (Q' := _) cfgs (dats m hw) (0 : Fin 1) launch0 defs₀ 𝒱₀ m ρ main
    (hbody := fun c => (body_obligation m hw c).loose) (hshare := fun c => (dats m hw 0 c).share_full fun _ => rfl)
    (howed := fun _ _ => rfl) (V := V m) (hmain := hmain m 𝒱₀) (hA := A_eq m hw) (hΦ := fun _ _ => rfl)

end Cert.Proof.K
end
-- ==== Proof.Range.lean ====
module

public import proofs.«01_k».proof.Proof.Launched
public import Idealize.ShloMosaic.Lib.ReduceAll
public import Idealize.ShloMosaic.Lib.WordArith

@[expose] public section

set_option maxRecDepth 16384

noncomputable section

/-! ## Graph numbers in range: what the kernel's tiles of them satisfy -/

namespace Cert.Proof.K

open Cert.KernelIdeal Cert.KernelIdeal.Gen
open Idealize.ShloMosaic Idealize.ShloMosaic.TcCoe

variable {F : FTy → Type} [FloatOps F]

/-- A word that is a graph number: signed, from 0 up to 511. -/
def IsGraph (w : BitVec 32) : Prop := 0 ≤ w.toInt ∧ w.toInt < 512

theorem IsGraph.toNat_lt {w : BitVec 32} (h : IsGraph w) : w.toNat < 512 ∧ w.toInt = w.toNat := by
  obtain ⟨h0, h1⟩ := h
  rw [BitVec.toInt_eq_toNat_cond] at h0 h1 ⊢
  split_ifs at h0 h1 ⊢ <;> constructor <;> omega

/-- The window's first row from a graph number: the multiple of 8 at or below it, capped so the window fits. -/
theorem base_table : ∀ n : Fin 512, (base (BitVec.ofNat 32 n.val)).toNat = min (8 * (n.val / 8)) 480 := by
  decide +kernel

theorem base_toNat {w : BitVec 32} (h : IsGraph w) : (base w).toNat = min (8 * (w.toNat / 8)) 480 := by
  have := base_table ⟨w.toNat, h.toNat_lt.1⟩
  simpa using this

theorem off7_eq (v : BitVec 32) : k0_off7 v = ![(base v).toNat, 0] := rfl
theorem off8_eq (v : BitVec 32) : k0_off8 v = ![(base v).toNat, 0] := rfl

/-- The kernel's assumption on a tile holds as soon as its least entry is a graph number. -/
theorem chk_of_lo (v w : BitVec 32) (h : IsGraph v) : k0_chk2 v w := by
  have hb := base_toNat h
  refine ⟨fun _ a => ?_, fun _ a => ?_⟩
  · rw [off7_eq]; fin_cases a
    · show (base v).toNat + 32 ≤ 512; omega
    · show 0 + 128 ≤ 128; omega
  · rw [off8_eq]; fin_cases a
    · show (base v).toNat + 32 ≤ 512; omega
    · show 0 + 1 ≤ 1; omega

theorem toInt_min (a b : BitVec 32) : (IntOp.minsi a b).toInt = min a.toInt b.toInt := by
  unfold IntOp.minsi
  simp only [BitVec.slt_eq_decide, decide_eq_true_eq]
  split_ifs <;> omega

theorem toInt_max (a b : BitVec 32) : (IntOp.maxsi a b).toInt = max a.toInt b.toInt := by
  unfold IntOp.maxsi
  simp only [BitVec.slt_eq_decide, decide_eq_true_eq]
  split_ifs <;> omega

/-- A running signed minimum is at most its start and every entry, and is its start or one of the entries. -/
theorem fold_min {ι : Type} (f : ι → BitVec 32) : ∀ (l : List ι) (i : BitVec 32),
    (l.foldl (fun r n => IntOp.minsi r (f n)) i).toInt ≤ i.toInt
    ∧ (∀ n ∈ l, (l.foldl (fun r n => IntOp.minsi r (f n)) i).toInt ≤ (f n).toInt)
    ∧ (∀ c : Int, c ≤ i.toInt → (∀ n ∈ l, c ≤ (f n).toInt) → c ≤ (l.foldl (fun r n => IntOp.minsi r (f n)) i).toInt)
  | [], i => ⟨le_refl _, by simp, fun c h _ => h⟩
  | a :: l, i => by
    obtain ⟨h1, h2, h3⟩ := fold_min f l (IntOp.minsi i (f a))
    rw [toInt_min] at h1
    simp only [List.foldl_cons]
    refine ⟨by omega, fun n hn => ?_, fun c hc hf => ?_⟩
    · rcases List.mem_cons.1 hn with rfl | hn
      · omega
      · exact h2 n hn
    · refine h3 c ?_ fun n hn => hf n (List.mem_cons_of_mem _ hn)
      rw [toInt_min]
      have := hf a (List.mem_cons_self ..)
      omega

/-- A running signed maximum is at least every entry. -/
theorem fold_max {ι : Type} (f : ι → BitVec 32) : ∀ (l : List ι) (i : BitVec 32),
    i.toInt ≤ (l.foldl (fun r n => IntOp.maxsi r (f n)) i).toInt
    ∧ (∀ n ∈ l, (f n).toInt ≤ (l.foldl (fun r n => IntOp.maxsi r (f n)) i).toInt)
    ∧ (∀ c : Int, i.toInt ≤ c → (∀ n ∈ l, (f n).toInt ≤ c) → (l.foldl (fun r n => IntOp.maxsi r (f n)) i).toInt ≤ c)
  | [], i => ⟨le_refl _, by simp, fun c h _ => h⟩
  | a :: l, i => by
    obtain ⟨h1, h2, h3⟩ := fold_max f l (IntOp.maxsi i (f a))
    rw [toInt_max] at h1
    simp only [List.foldl_cons]
    refine ⟨by omega, fun n hn => ?_, fun c hc hf => ?_⟩
    · rcases List.mem_cons.1 hn with rfl | hn
      · omega
      · exact h2 n hn
    · refine h3 c ?_ fun n hn => hf n (List.mem_cons_of_mem _ hn)
      rw [toInt_max]
      have := hf a (List.mem_cons_self ..)
      omega

theorem lo_fold (b : Vec F S1x1x2000 .i32) : ∃ (l : List (Fin S1x1x2000.numel)) (e : Fin S1x1x2000.numel → S1x1x2000.Idx),
    (∀ i, ∃ n ∈ l, e n = i) ∧ lo b = l.foldl (fun r n => IntOp.minsi r (b (e n))) 2147483647#32
    ∧ hi b = l.foldl (fun r n => IntOp.maxsi r (b (e n))) 2147483648#32 := by
  let E : S1x1x2000.Idx ≃ S1x1x2000.Idx := (Shape.reshapeEquiv shapeCasts_S1x2000_S1x1x2000).trans (Shape.reshapeEquiv shapeCasts_S1x1x2000_S1x2000)
  refine ⟨_, fun n => E (S1x1x2000.rowMajor.symm n), fun i => ?_, rfl, rfl⟩
  refine ⟨S1x1x2000.rowMajor (E.symm i), ?_, by simp⟩
  rw [List.mem_filter]
  refine ⟨List.mem_finRange _, decide_eq_true ?_⟩
  funext a
  have : ∀ x y : Fin (S1.size a), x = y := by
    revert a; intro a; fin_cases a; intro x y; exact Subsingleton.elim (α := Fin 1) x y
  exact this _ _

/-- Over a tile of graph numbers: the least and the greatest bound every entry and are graph numbers. -/
theorem lo_hi (b : Vec F S1x1x2000 .i32) (hb : ∀ i, IsGraph (b i)) :
    IsGraph (lo b) ∧ IsGraph (hi b) ∧ ∀ i, (lo b).toInt ≤ (b i).toInt ∧ (b i).toInt ≤ (hi b).toInt := by
  obtain ⟨l, e, hl, h1, h2⟩ := lo_fold b
  have hm := fold_min (fun n => b (e n)) l 2147483647#32
  have hM := fold_max (fun n => b (e n)) l 2147483648#32
  rw [← h1] at hm
  rw [← h2] at hM
  have hi : ∀ i, (lo b).toInt ≤ (b i).toInt ∧ (b i).toInt ≤ (hi b).toInt := by
    intro i
    obtain ⟨n, hn, rfl⟩ := hl i
    exact ⟨hm.2.1 n hn, hM.2.1 n hn⟩
  have i0 : S1x1x2000.Idx := fun a => ⟨0, by fin_cases a <;> decide⟩
  have g0 := hb i0
  have b0 := hi i0
  have l0 := hm.2.2 0 (by decide) (fun n _ => (hb _).1)
  have l1 := hM.2.2 511 (by decide) (fun n _ => by have := (hb (e n)).2; omega)
  exact ⟨⟨l0, by have := g0.2; omega⟩, ⟨by have := g0.1; omega, by omega⟩, hi⟩

variable (m : (ℓ : Loc nD τ sig) → Buf (Elt F) ℓ)

/-- The block of graph numbers the kernel gets is the argument, re-laid in tiles. -/
theorem B3_eq (c : Dev nD) (t : Fin cfg0.N) : B3 m c t = shapeCast S50x1x2000 (m ((c.tc : Thread nD τ).loc main_arg1)) shapeCasts_S100000_S50x1x2000 := by
  have hV : V m c main_call0_v1 = shapeCast S50x1x2000 (m ((c.tc : Thread nD τ).loc main_arg1)) shapeCasts_S100000_S50x1x2000 := rfl
  rw [← hV]
  have hz : (fun a => win0_1.index t a * main_call0_v1.ty.shape.size a) = fun _ => 0 := funext fun a => by fin_cases a <;> rfl
  exact Memref.read_access_unit_zero (Elt F) main_call0_v1 hz _ _

/-- With every graph number of the argument in range, every tile satisfies the kernel's assumption. -/
theorem tiles_graph (b : IVec S100000 32) (hb : ∀ i, IsGraph (b i)) (t : Fin k0_t2_loop.trips) (i) :
    IsGraph (bt (F := F) (shapeCast S50x1x2000 b shapeCasts_S100000_S50x1x2000) t i) := hb _

theorem tilesAll_of (hb : ∀ (c : Dev nD) i, IsGraph (m ((c.tc : Thread nD τ).loc main_arg1) i)) : TilesAll m := fun c t t' => by
  rw [B3_eq]
  exact chk_of_lo _ _ (lo_hi _ (tiles_graph _ (hb c) t')).1

end Cert.Proof.K
end
-- ==== Proof.RefRun.lean ====
module

public import proofs.«01_k».proof.Defs
public import proofs.«01_k».proof.Proof.Gen.ReferenceIdeal
public import Idealize.ShloMosaic.Lib.Claim
public import Idealize.ShloMosaic.Lib.StableHlo.RunRead

@[expose] public section

set_option maxRecDepth 16384

noncomputable section

/-! ## The run of the reference: its operations as one list -/

namespace Cert.Proof.R

open Idealize.ShloMosaic Idealize.SL.Sem Idealize.ShloMosaic.StableHlo Cert.ReferenceIdeal

/-- The operations of the reference, in order, read off its program. -/
def line : {l : List (HloOp τ sig (Elt Ideal)) // ∀ d, IsSeq (main (F := Ideal) d) l} := by
  apply Subtype.mk
  hlo_seq

/-- What device `c`'s buffers hold once the reference has run. -/
abbrev fin (m : (ℓ : Loc nD τ sig) → Buf (Elt Ideal) ℓ) (c : Dev nD) : Valuation τ sig (Elt Ideal) :=
  after line.1 (launchContents m c)

set_option maxHeartbeats 4000000 in
/-- Every operation works on the program's own buffers. -/
theorem line_bufs : line.1.Forall fun op => op.bufs ⊆ tcRefs τ sig := by
  unfold line
  rw [List.forall_iff_forall_mem]
  intro _ h
  (repeat (cases h with | head => exact of_eq_true (by simp) | tail _ h => ?_)); exact nomatch h

theorem line_fresh : ∀ op ∈ line.1, op.fresh = ∅ := by
  intro _ h
  unfold line at h
  (repeat (cases h with | head => rfl | tail _ h => ?_)); exact nomatch h

/-- The reference runs to the contents its operations compute. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r =>
      ∀ (d : Dev nD) (b : Ref sig .tc), r.2.mem ((d.tc : Thread nD τ).loc b) = fin m d (Proc.devRef .tc b) :=
  run_hlo _ _ line.2 (by decide) (by decide) line_bufs line_fresh m ρ

theorem fin_arg0 (m c) : fin m c (Proc.devRef .tc main_arg0) = m ((c.tc : Thread nD τ).loc main_arg0) := by
  unfold fin
  after_reads_simp

theorem fin_arg1 (m c) : fin m c (Proc.devRef .tc main_arg1) = m ((c.tc : Thread nD τ).loc main_arg1) := by
  unfold fin
  after_reads_simp

theorem fin_arg2 (m c) : fin m c (Proc.devRef .tc main_arg2) = m ((c.tc : Thread nD τ).loc main_arg2) := by
  unfold fin
  after_reads_simp

theorem fin_arg3 (m c) : fin m c (Proc.devRef .tc main_arg3) = m ((c.tc : Thread nD τ).loc main_arg3) := by
  unfold fin
  after_reads_simp

theorem fin_arg4 (m c) : fin m c (Proc.devRef .tc main_arg4) = m ((c.tc : Thread nD τ).loc main_arg4) := by
  unfold fin
  after_reads_simp

theorem fin_arg5 (m c) : fin m c (Proc.devRef .tc main_arg5) = m ((c.tc : Thread nD τ).loc main_arg5) := by
  unfold fin
  after_reads_simp

end Cert.Proof.R
end
-- ==== Proof.Frames.lean ====
module

public import proofs.«01_k».proof.Defs
public import proofs.«01_k».proof.Proof.Range
public import proofs.«01_k».proof.Proof.Gen.Kernel
public import proofs.«01_k».proof.Proof.Gen.KernelIdeal
public import proofs.«01_k».proof.Proof.Gen.ReferenceIdeal
public import proofs.«01_k».proof.Proof.RefRun
public import Idealize.ShloMosaic.Lib.Claim

@[expose] public section

set_option maxRecDepth 16384

noncomputable section

/-! ## The frames -/

namespace Cert.Proof

open Idealize.ShloMosaic Idealize.SL.Sem

instance : Cert.Pre_graphs_in_range.Facts := ⟨by decide⟩

/-- The printed predicate on graph numbers, read: every one lies in range. -/
theorem graphs_of_pre {F : FTy → Type} [FloatOps F] (x0 x1 x2 x3 x4 x5)
    (h : Cert.Pre_graphs_in_range.fn (F := F) x0 x1 x2 x3 x4 x5 = fun _ => 1#1) (i) : K.IsGraph (x1 i) := by
  have h := congrFun h i
  have h' : IntOp.andi (IntOp.cmpi .sge (x1 i) 0#32) (IntOp.cmpi .slt (x1 i) 512#32) = 1#1 := h
  obtain ⟨h0, h1⟩ := IntOp.andi_eq_one.1 h'
  simp only [IntOp.cmpi, WordArith.ofBool_eq_one_iff, BitVec.slt_eq_decide, BitVec.sle_eq_decide, decide_eq_true_eq] at h0 h1
  exact ⟨by simpa using h0, by simpa using h1⟩

theorem quiescent_KernelIdeal : Cert.quiescent_KernelIdeal := fun m ρ hpre =>
  have hw := K.tilesAll_of m fun c i => graphs_of_pre _ _ _ _ _ _ (hpre c) i
  have h := K.run_main m ρ hw
  θ_run_and (Cert.KernelIdeal.Gen.frame_of m ρ (K.dats m hw) (K.A_eq m hw) (θ_run_mono h fun _ h => h.1)) (θ_run_mono h fun _ h => h.2)

/-- The kernel's body is one text in both programs. -/
theorem body_same : @Cert.Kernel.cc0__set2set_kernel Bits _ _ = @Cert.KernelIdeal.cc0__set2set_kernel Bits _ _ := rfl

theorem table_same : @Cert.Kernel.defs₀ Bits _ _ = @Cert.KernelIdeal.defs₀ Bits _ _ := by
  unfold Cert.Kernel.defs₀ Cert.KernelIdeal.defs₀
  refine congrArg Defs.onTc ?_
  funext l a
  match l, a with
  | 0, (t, s) =>
    have h := body_same
    exact congrFun (congrFun (congrFun (congrFun (congrFun (congrFun (congrFun (congrFun (congrFun (congrFun (congrFun (congrFun (congrFun (congrFun (congrFun (congrFun (congrFun (congrFun (congrFun (congrFun (congrFun (congrFun body_same _) _) _) _) _) _) _) _) _) _) _) _) _) _) _) _) _) _) _) _) _) _
  | ⟨_ + 1, h⟩, _ => exact absurd h (Nat.not_lt.2 (Nat.le_add_left _ _))

theorem defs_same : @Cert.Kernel.defs Bits _ _ = @Cert.KernelIdeal.defs Bits _ _ := by
  unfold Cert.Kernel.defs Cert.KernelIdeal.defs
  rw [table_same]
  rfl

theorem main_same : @Cert.Kernel.main Bits _ _ = @Cert.KernelIdeal.main Bits _ _ := rfl

/-- The kernel at machine words is the same text as its ideal twin, so the same run serves it. -/
theorem quiescent_Kernel : Cert.quiescent_Kernel := fun m ρ hpre => by
  have hw := K.tilesAll_of (F := Bits) m fun c i => graphs_of_pre _ _ _ _ _ _ (hpre c) i
  have h := K.run_main (F := Bits) m ρ hw
  have e := θ_run_and (Cert.KernelIdeal.Gen.frame_of (F := Bits) m ρ (K.dats m hw) (K.A_eq m hw) (θ_run_mono h fun _ h => h.1)) (θ_run_mono h fun _ h => h.2)
  rw [defs_same, main_same]
  exact e

/-- The reference runs and leaves its arguments as they were; it has no semaphore. -/
theorem quiescent_ReferenceIdeal : Cert.quiescent_ReferenceIdeal := fun m ρ _ =>
  θ_run_mono (R.run m ρ) fun r h => ⟨fun c => ⟨(h c _).trans (R.fin_arg0 m c), (h c _).trans (R.fin_arg1 m c), (h c _).trans (R.fin_arg2 m c),
    (h c _).trans (R.fin_arg3 m c), (h c _).trans (R.fin_arg4 m c), (h c _).trans (R.fin_arg5 m c)⟩, sem_eq_zero_of_no_sems (by decide) r.2⟩

end Cert.Proof
end
-- ==== Proof.Soft.lean ====
module

public import Idealize.ShloMosaic.PureOps.Ideal.Laws
public import Idealize.ShloMosaic.Lib.Pointwise

@[expose] public section

noncomputable section

/-! ## The running softmax, over the reals -/

namespace Cert.Proof.Soft

open Idealize.ShloMosaic

variable {ρ ι κ γ : Type} [Fintype ρ] [DecidableEq ρ] [Fintype ι] [DecidableEq γ] {T : ℕ}

/-- A sum of reals, taken among the extended reals. -/
theorem coe_sum {α : Type} (s : Finset α) (f : α → ℝ) : ((∑ a ∈ s, f a : ℝ) : EReal) = ∑ a ∈ s, (f a : EReal) := by
  classical
  induction s using Finset.induction_on with
  | empty => simp
  | insert a s ha ih => rw [Finset.sum_insert ha, Finset.sum_insert ha, EReal.coe_add, ih]

/-- The sum over the first `n` tiles. -/
def upTo (f : Fin T → ℝ) (n : ℕ) : ℝ := ∑ t, if t.val < n then f t else 0

theorem upTo_zero (f : Fin T → ℝ) : upTo f 0 = 0 := by simp [upTo]

theorem upTo_succ (f : Fin T → ℝ) (t : Fin T) : upTo f (t.val + 1) = upTo f t.val + f t := by
  have h : f t = ∑ t', if t' = t then f t' else 0 := by simp
  rw [h, upTo, upTo, ← Finset.sum_add_distrib]
  refine Finset.sum_congr rfl fun t' _ => ?_
  rcases lt_trichotomy t'.val t.val with h | h | h
  · rw [if_pos (by omega), if_pos h, if_neg (by rintro rfl; omega), add_zero]
  · rw [if_pos (by omega), if_neg (by omega), if_pos (Fin.ext h), zero_add]
  · rw [if_neg (by omega), if_neg (by omega), if_neg (by rintro rfl; omega), add_zero]

theorem upTo_all (f : Fin T → ℝ) : upTo f T = ∑ t, f t :=
  Finset.sum_congr rfl fun t _ => if_pos t.isLt

theorem upTo_mul (f : Fin T → ℝ) (n : ℕ) (c : ℝ) : upTo f n * c = upTo (fun t => f t * c) n := by
  rw [upTo, upTo, Finset.sum_mul]
  refine Finset.sum_congr rfl fun t _ => ?_
  split <;> simp

theorem upTo_congr {f f' : Fin T → ℝ} (h : ∀ t, f t = f' t) (n : ℕ) : upTo f n = upTo f' n := by rw [funext h]

variable (b : Fin T → ι → γ) (E : γ → Fin T → ι → ℝ) (X : Fin T → ι → κ → ℝ)

/-- The weights of graph `g` in tile `t`, less `m` in the exponent. -/
def wsum (g : γ) (m : ℝ) (t : Fin T) : ℝ := ∑ i, if b t i = g then Real.exp (E g t i - m) else 0
/-- The weighted rows of graph `g` in tile `t`, lane `d`. -/
def xsum (g : γ) (m : ℝ) (d : κ) (t : Fin T) : ℝ := ∑ i, (if b t i = g then Real.exp (E g t i - m) else 0) * X t i d

/-- What the scratch row of graph `g` holds after `n` tiles: some real `m`, and the sums of the weights `exp (e - m)`. -/
def Row (n : ℕ) (g : γ) (M S : EReal) (R : κ → EReal) : Prop :=
  ∃ m : ℝ, M = m ∧ S = (upTo (wsum b E g m) n : ℝ) ∧ ∀ d, R d = (upTo (xsum b E X g m d) n : ℝ)

/-- The new maximum of a row. -/
def newM (neg : EReal) (mask : ρ → ι → BitVec 1) (e : ρ → ι → EReal) (M : ρ → EReal) (r : ρ) : EReal :=
  max (M r) (Finset.fold max ⊥ (fun i => Scalar.select (mask r i) (e r i) neg) Finset.univ)

/-- The weight of a node in a row. -/
def wt (neg : EReal) (mask : ρ → ι → BitVec 1) (e : ρ → ι → EReal) (M : ρ → EReal) (r : ρ) (i : ι) : EReal :=
  Scalar.select (mask r i) (Ideal.exp (∑ r', Scalar.select (mask r' i) (e r' i) 0 - ∑ r', Scalar.select (mask r' i) (newM neg mask e M r') 0)) 0

theorem fold_real {α : Type} (s : Finset α) (f : α → ℝ) : Finset.fold max (⊥ : EReal) (fun a => (f a : EReal)) s = ⊥ ∨
    ∃ r : ℝ, Finset.fold max (⊥ : EReal) (fun a => (f a : EReal)) s = r := by
  classical
  induction s using Finset.induction_on with
  | empty => exact .inl rfl
  | insert a s ha ih =>
    right
    rw [Finset.fold_insert ha]
    rcases ih with h | ⟨r, h⟩
    · exact ⟨f a, by rw [h]; exact max_bot_right _⟩
    · exact ⟨max (f a) r, by rw [h]; exact (EReal.coe_strictMono.monotone.map_max).symm⟩

theorem max_fold_real {α : Type} (s : Finset α) (f : α → ℝ) (m : ℝ) : ∃ r : ℝ, max (m : EReal) (Finset.fold max (⊥ : EReal) (fun a => (f a : EReal)) s) = r := by
  rcases fold_real s f with h | ⟨r, h⟩
  · exact ⟨m, by rw [h]; exact max_bot_right _⟩
  · exact ⟨max m r, by rw [h]; exact (EReal.coe_strictMono.monotone.map_max).symm⟩

variable {b E X}

theorem select_sum (mask : ρ → BitVec 1) (f : ρ → EReal) (r : ρ) (h : mask r = 1) (hu : ∀ r', mask r' = 1 → r' = r) :
    ∑ r', Scalar.select (mask r') (f r') 0 = f r := by
  rw [Finset.sum_eq_single r]
  · exact if_pos h
  · exact fun r' _ hne => if_neg fun h' => hne (hu r' h')
  · exact fun h => absurd (Finset.mem_univ r) h

/-- One tile keeps what a row holds, whichever rows the tile is done for. -/
theorem tile (t : Fin T) (emb : ρ → γ) (hinj : Function.Injective emb) (mask : ρ → ι → BitVec 1)
    (hmask : ∀ r i, mask r i = 1 ↔ b t i = emb r) (e : ρ → ι → EReal) (he : ∀ r i, e r i = (E (emb r) t i : ℝ))
    (x : ι → κ → EReal) (hx : ∀ i d, x i d = (X t i d : ℝ)) (neg : ℝ) (M S : ρ → EReal) (R : ρ → κ → EReal)
    (h : ∀ r, Row b E X t.val (emb r) (M r) (S r) (R r)) (r : ρ) :
    Row b E X (t.val + 1) (emb r) (newM neg mask e M r) (S r * Ideal.exp (M r - newM neg mask e M r) + ∑ i, wt neg mask e M r i)
      (fun d => R r d * Ideal.exp (M r - newM neg mask e M r) + ∑ i, wt neg mask e M r i * x i d) := by
  choose m hM hS hR using h
  have hm' : ∀ r, ∃ m' : ℝ, newM neg mask e M r = m' := fun r => by
    have hf : (fun i => Scalar.select (mask r i) (e r i) (neg : EReal)) = fun i => ((if mask r i = 1 then E (emb r) t i else neg : ℝ) : EReal) := by
      funext i
      rw [Scalar.select, he]
      split <;> rfl
    unfold newM
    rw [hf, hM]
    exact max_fold_real _ _ _
  choose m' hm' using hm'
  have hw : ∀ i, wt neg mask e M r i = ((if b t i = emb r then Real.exp (E (emb r) t i - m' r) else 0 : ℝ) : EReal) := fun i => by
    unfold wt
    by_cases hi : mask r i = 1
    · have hu : ∀ r', mask r' i = 1 → r' = r := fun r' h' => hinj (((hmask r' i).1 h').symm.trans ((hmask r i).1 hi))
      rw [select_sum _ _ r hi hu, select_sum _ _ r hi hu, if_pos ((hmask r i).1 hi), Scalar.select, if_pos hi, he, hm', ← EReal.coe_sub, Ideal.exp_coe]
    · rw [Scalar.select, if_neg hi, if_neg fun h => hi ((hmask r i).2 h)]
      rfl
  have hc : ∀ a : ℝ, Real.exp (a - m r) * Real.exp (m r - m' r) = Real.exp (a - m' r) := fun a => by
    rw [← Real.exp_add]; congr 1; ring
  refine ⟨m' r, hm' r, ?_, fun d => ?_⟩
  · rw [hS, hM, hm', ← EReal.coe_sub, Ideal.exp_coe, Finset.sum_congr rfl fun i _ => hw i, ← coe_sum, ← EReal.coe_mul, ← EReal.coe_add,
      upTo_mul, upTo_succ]
    congr 2
    refine upTo_congr (fun t' => ?_) _
    rw [wsum, wsum, Finset.sum_mul]
    refine Finset.sum_congr rfl fun i _ => ?_
    split
    · exact hc _
    · exact zero_mul _
  · simp only [hw, hx]
    rw [hR, hM, hm', ← EReal.coe_sub, Ideal.exp_coe, ← EReal.coe_mul]
    simp only [← EReal.coe_mul]
    rw [← coe_sum, ← EReal.coe_add, upTo_mul, upTo_succ]
    congr 2
    refine upTo_congr (fun t' => ?_) _
    rw [xsum, xsum, Finset.sum_mul]
    refine Finset.sum_congr rfl fun i _ => ?_
    split
    · rw [mul_right_comm, hc]
    · rw [zero_mul, zero_mul]

/-- A tile without a node of graph `g` leaves what its row holds. -/
theorem skip (t : Fin T) (g : γ) (hg : ∀ i, b t i ≠ g) {M S : EReal} {R : κ → EReal} (h : Row b E X t.val g M S R) :
    Row b E X (t.val + 1) g M S R := by
  obtain ⟨m, hM, hS, hR⟩ := h
  refine ⟨m, hM, ?_, fun d => ?_⟩
  · rw [hS, upTo_succ, wsum, Finset.sum_eq_zero fun i _ => if_neg (hg i), add_zero]
  · rw [hR, upTo_succ, xsum, Finset.sum_eq_zero fun i _ => by rw [if_neg (hg i), zero_mul], add_zero]

end Cert.Proof.Soft
end
-- ==== Proof.Tiles.lean ====
module

public import proofs.«01_k».proof.Proof.Range
public import proofs.«01_k».proof.Proof.Soft

@[expose] public section

set_option maxRecDepth 16384

noncomputable section

/-! ## What one tile does to the scratch, at the ideal numbers -/

namespace Cert.Proof.K

open Cert.KernelIdeal Cert.KernelIdeal.Gen Idealize.ShloMosaic Cert.Proof.Soft

/-- The kernel's first maximum, a real number. -/
theorem neg_real : ∃ r : ℝ, Ideal.ofBits FTy.f32 4048155338#32 = r := by
  unfold Ideal.ofBits Ideal.ieee
  simp
  exact ⟨_, rfl⟩

theorem ninf : Ideal.ofBits FTy.f32 4286578688#32 = ⊥ := by
  unfold Ideal.ofBits Ideal.ieee
  simp

/-! ### Windows of rows -/

theorem window_row {α : Type} {C : ℕ} (x : (⟨2, ![512, C]⟩ : Shape).Idx → α) (B : ℕ) (inb : ∀ a, (![B, 0] : Fin 2 → ℕ) a + (![32, C] : Fin 2 → ℕ) a ≤ (![512, C] : Fin 2 → ℕ) a)
    (r : Fin 32) (d : Fin C) (h : B + r.val < 512) :
    VecWindow.window (s := ⟨2, ![512, C]⟩) x ![B, 0] ![32, C] inb (ix2 r d) = x (ix2 ⟨B + r.val, h⟩ d) := by
  unfold VecWindow.window
  congr 1
  funext a
  apply Fin.ext
  fin_cases a
  · show B + 1 * r.val = B + r.val; omega
  · show 0 + 1 * d.val = d.val; omega

theorem put_row {α : Type} {C : ℕ} (x : (⟨2, ![512, C]⟩ : Shape).Idx → α) (B : ℕ) (w : ((a : Fin 2) → Fin ((![32, C] : Fin 2 → ℕ) a)) → α)
    (r : Fin 32) (d : Fin C) (h : B + r.val < 512) :
    VecWindow.put (s := ⟨2, ![512, C]⟩) x ![B, 0] ![32, C] w (ix2 ⟨B + r.val, h⟩ d) = w (ix2 r d) := by
  unfold VecWindow.put
  rw [dif_pos]
  · congr 1
    funext a
    apply Fin.ext
    fin_cases a
    · show B + r.val - B = r.val; omega
    · show d.val - 0 = d.val; omega
  · intro a
    fin_cases a
    · show B ≤ B + r.val ∧ B + r.val < B + 32; omega
    · show 0 ≤ d.val ∧ d.val < 0 + C; omega

theorem put_else {α : Type} {C : ℕ} (x : (⟨2, ![512, C]⟩ : Shape).Idx → α) (B : ℕ) (w : ((a : Fin 2) → Fin ((![32, C] : Fin 2 → ℕ) a)) → α)
    (g : Fin 512) (d : Fin C) (h : g.val < B ∨ B + 32 ≤ g.val) :
    VecWindow.put (s := ⟨2, ![512, C]⟩) x ![B, 0] ![32, C] w (ix2 g d) = x (ix2 g d) := by
  unfold VecWindow.put
  rw [dif_neg]
  intro h'
  have h0 : B ≤ g.val ∧ g.val < B + 32 := h' 0
  omega

/-! ### The masks -/

theorem eq_word (v w : BitVec 32) : IntOp.cmpi CmpIPredicate.eq v w = 1 ↔ w.toNat = v.toNat := by
  show BitVec.ofBool (v == w) = 1#1 ↔ _
  rw [WordArith.ofBool_eq_one_iff, beq_iff_eq]
  exact ⟨fun h => by rw [h], fun h => BitVec.eq_of_toNat_eq h.symm⟩

theorem mask_wide (b : Vec Ideal S1x1x2000 .i32) (g : Fin 512) (i : Fin 2000) :
    k0_pay32 i512 (k0_pay40 (F := Ideal) b) (ix2 g i) = 1 ↔ (b (ix3 0 0 i)).toNat = g.val := by
  have h : k0_pay32 i512 (k0_pay40 (F := Ideal) b) (ix2 g i) = IntOp.cmpi CmpIPredicate.eq (BitVec.ofNat 32 g.val) (b (ix3 0 0 i)) := by
    unfold k0_pay32 k0_pay40 i512
    pointwise
  rw [h, eq_word, BitVec.toNat_ofNat, Nat.mod_eq_of_lt (by omega)]

theorem mask_narrow (b : Vec Ideal S1x1x2000 .i32) (B : BitVec 32) (hB : B.toNat ≤ 480) (r : Fin 32) (i : Fin 2000) :
    k0_pay25 i32 (k0_pay40 (F := Ideal) b) B (ix2 r i) = 1 ↔ (b (ix3 0 0 i)).toNat = B.toNat + r.val := by
  have h : k0_pay25 i32 (k0_pay40 (F := Ideal) b) B (ix2 r i) = IntOp.cmpi CmpIPredicate.eq (IntOp.addi (BitVec.ofNat 32 r.val) B) (b (ix3 0 0 i)) := by
    unfold k0_pay25 k0_pay40 i32
    pointwise
  rw [h, eq_word, IntOp.addi, BitVec.toNat_add, BitVec.toNat_ofNat, Nat.mod_eq_of_lt (by omega), Nat.mod_eq_of_lt (by omega), Nat.add_comm]

/-! ### The window holds the tile -/

/-- In the narrow branch every graph of the tile has its row in the window. -/
theorem narrow_window (b : Vec Ideal S1x1x2000 .i32) (hb : ∀ i, IsGraph (b i)) (hW : ¬ wideW (lo b) (hi b) = 1#1) :
    (base (lo b)).toNat ≤ 480 ∧ ∀ i, (base (lo b)).toNat ≤ (b i).toNat ∧ (b i).toNat < (base (lo b)).toNat + 32 := by
  obtain ⟨hl, hh, hall⟩ := lo_hi b hb
  have e := base_toNat hl
  have nl := hl.toNat_lt
  have nh := hh.toNat_lt
  have hs : (hi b).toNat < (base (lo b)).toNat + 32 := by
    by_contra hc
    refine hW ?_
    have hlt : (Scalar.subi (hi b) (base (lo b))).toInt = (hi b).toNat - (base (lo b)).toNat := by
      have : (Scalar.subi (hi b) (base (lo b))).toNat = (hi b).toNat - (base (lo b)).toNat := by
        show (hi b - base (lo b)).toNat = _
        rw [BitVec.toNat_sub_of_le (by rw [BitVec.le_def]; omega)]
      rw [BitVec.toInt_eq_toNat_of_lt (by omega), this]
      omega
    have hge : Scalar.cmpi .sge (Scalar.subi (hi b) (base (lo b))) 32#32 = 1#1 := by
      show IntOp.cmpi .sge (Scalar.subi (hi b) (base (lo b))) 32#32 = 1#1
      simp only [IntOp.cmpi, WordArith.ofBool_eq_one_iff, BitVec.sle_eq_decide, decide_eq_true_eq, hlt]
      have : (32#32 : BitVec 32).toInt = 32 := by decide
      omega
    unfold wideW
    rw [hge]
    decide
  refine ⟨by omega, fun i => ?_⟩
  have := hall i
  have ni := (hb i).toNat_lt
  omega

end Cert.Proof.K
end
-- ==== Proof.Steps.lean ====
module

public import proofs.«01_k».proof.Proof.Tiles
public import proofs.«01_k».proof.Proof.Run

@[expose] public section

set_option maxRecDepth 16384

noncomputable section

/-! ## What a step's loop leaves in the scratch, at the ideal numbers -/

namespace Cert.Proof.K

open Cert.KernelIdeal Cert.KernelIdeal.Gen Idealize.ShloMosaic Cert.Proof.Soft

/-- The number the kernel starts its maxima from. -/
abbrev neg : EReal := Ideal.ofBits FTy.f32 4048155338#32

section
variable (x : Vec Ideal S1x2000x128 .f32) (b : Vec Ideal S1x1x2000 .i32) (Q : Vec Ideal S512x128 .f32) (M S : Vec Ideal S512x1 .f32) (R : Vec Ideal S512x128 .f32)

/-- Membership and scores of a tile against all rows. -/
abbrev wMask (r : Fin 512) (i : Fin 2000) : BitVec 1 := k0_pay32 i512 (k0_pay40 (F := Ideal) b) (ix2 r i)
abbrev wE (r : Fin 512) (i : Fin 2000) : EReal := k0_pay33 (k0_pay39 x) Q (ix2 r i)

theorem wE_eq (r : Fin 512) (i : Fin 2000) : wE x Q r i = ∑ d, Q (ix2 r d) * x (ix3 0 i d) := by
  unfold wE k0_pay33 k0_pay39
  pointwise

theorem pay34_eq (r : Fin 512) : k0_pay34 i512 (k0_pay39 x) (k0_pay40 (F := Ideal) b) Q M (ix2 r 0) = newM neg (wMask b) (wE x Q) (fun r => M (ix2 r 0)) r := by
  unfold k0_pay34
  pointwise
  rw [ninf]; rfl

theorem pay35_eq (r : Fin 512) : k0_pay35 i512 (k0_pay39 x) (k0_pay40 (F := Ideal) b) Q M (ix2 r 0) = Ideal.exp (M (ix2 r 0) - newM neg (wMask b) (wE x Q) (fun r => M (ix2 r 0)) r) := by
  rw [← pay34_eq]
  unfold k0_pay35
  pointwise

theorem pay36_eq (r : Fin 512) (i : Fin 2000) : k0_pay36 i512 (k0_pay39 x) (k0_pay40 (F := Ideal) b) Q M (ix2 r i) = wt neg (wMask b) (wE x Q) (fun r => M (ix2 r 0)) r i := by
  unfold k0_pay36
  pointwise
  simp only [pay34_eq]
  rfl

theorem wide_M (s : St Ideal) (r : Fin 512) : (wideSt i512 x b Q s).M (ix2 r 0) = newM neg (wMask b) (wE x Q) (fun r => s.M (ix2 r 0)) r := by
  rw [← pay34_eq]
  show k0_pay37 _ _ _ _ _ _ = _
  unfold k0_pay37
  pointwise

theorem wide_S (s : St Ideal) (r : Fin 512) : (wideSt i512 x b Q s).S (ix2 r 0) =
    s.S (ix2 r 0) * Ideal.exp (s.M (ix2 r 0) - newM neg (wMask b) (wE x Q) (fun r => s.M (ix2 r 0)) r) + ∑ i, wt neg (wMask b) (wE x Q) (fun r => s.M (ix2 r 0)) r i := by
  rw [← pay35_eq]
  simp only [← pay36_eq]
  show k0_pay38 _ _ _ _ _ _ _ = _
  unfold k0_pay38
  pointwise

theorem wide_R (s : St Ideal) (r : Fin 512) (d : Fin 128) : (wideSt i512 x b Q s).R (ix2 r d) =
    s.R (ix2 r d) * Ideal.exp (s.M (ix2 r 0) - newM neg (wMask b) (wE x Q) (fun r => s.M (ix2 r 0)) r)
      + ∑ i, wt neg (wMask b) (wE x Q) (fun r => s.M (ix2 r 0)) r i * x (ix3 0 i d) := by
  rw [← pay35_eq]
  simp only [← pay36_eq]
  show k0_pay102 _ _ _ _ _ = _
  unfold k0_pay102 k0_pay39
  pointwise

/-! The same, for the window. -/

variable (q : Vec Ideal S32x128 .f32) (m s : Vec Ideal S32x1 .f32) (R' : Vec Ideal S32x128 .f32) (B : BitVec 32)

/-- Membership and scores of a tile against the rows of the window. -/
abbrev nMask (r : Fin 32) (i : Fin 2000) : BitVec 1 := k0_pay25 i32 (k0_pay40 (F := Ideal) b) B (ix2 r i)
abbrev nE (r : Fin 32) (i : Fin 2000) : EReal := k0_pay26 (k0_pay39 x) q (ix2 r i)

theorem nE_eq (r : Fin 32) (i : Fin 2000) : nE x q r i = ∑ d, q (ix2 r d) * x (ix3 0 i d) := by
  unfold nE k0_pay26 k0_pay39
  pointwise

theorem pay27_eq (r : Fin 32) : k0_pay27 i32 (k0_pay39 x) (k0_pay40 (F := Ideal) b) B q m (ix2 r 0) = newM neg (nMask b B) (nE x q) (fun r => m (ix2 r 0)) r := by
  unfold k0_pay27
  pointwise
  rw [ninf]; rfl

theorem pay28_eq (r : Fin 32) : k0_pay28 i32 (k0_pay39 x) (k0_pay40 (F := Ideal) b) B q m (ix2 r 0) = Ideal.exp (m (ix2 r 0) - newM neg (nMask b B) (nE x q) (fun r => m (ix2 r 0)) r) := by
  rw [← pay27_eq]
  unfold k0_pay28
  pointwise

theorem pay29_eq (r : Fin 32) (i : Fin 2000) : k0_pay29 i32 (k0_pay39 x) (k0_pay40 (F := Ideal) b) B q m (ix2 r i) = wt neg (nMask b B) (nE x q) (fun r => m (ix2 r 0)) r i := by
  unfold k0_pay29
  pointwise
  simp only [pay27_eq]
  rfl

theorem pay30_eq (r : Fin 32) : k0_pay30 i32 (k0_pay39 x) (k0_pay40 (F := Ideal) b) B q m (ix2 r 0) = newM neg (nMask b B) (nE x q) (fun r => m (ix2 r 0)) r := by
  rw [← pay27_eq]
  unfold k0_pay30
  pointwise

theorem pay43_eq (r : Fin 32) : k0_pay43 (k0_pay31 i32 (k0_pay39 x) (k0_pay40 (F := Ideal) b) B q m s) (ix2 r 0) =
    s (ix2 r 0) * Ideal.exp (m (ix2 r 0) - newM neg (nMask b B) (nE x q) (fun r => m (ix2 r 0)) r) + ∑ i, wt neg (nMask b B) (nE x q) (fun r => m (ix2 r 0)) r i := by
  rw [← pay28_eq]
  simp only [← pay29_eq]
  unfold k0_pay43 k0_pay31
  pointwise

theorem pay44_eq (r : Fin 32) (d : Fin 128) : k0_pay44 x (k0_pay28 i32 (k0_pay39 x) (k0_pay40 (F := Ideal) b) B q m) (k0_pay29 i32 (k0_pay39 x) (k0_pay40 (F := Ideal) b) B q m) R' (ix2 r d) =
    R' (ix2 r d) * Ideal.exp (m (ix2 r 0) - newM neg (nMask b B) (nE x q) (fun r => m (ix2 r 0)) r)
      + ∑ i, wt neg (nMask b B) (nE x q) (fun r => m (ix2 r 0)) r i * x (ix3 0 i d) := by
  rw [← pay28_eq]
  simp only [← pay29_eq]
  unfold k0_pay44 k0_pay39
  pointwise

end

/-! ### One trip -/

variable {T : ℕ} (gr : Fin T → Fin 2000 → ℕ) (Qr : ℕ → Fin 128 → ℝ) (X : Fin T → Fin 2000 → Fin 128 → ℝ)

/-- The score of a node against the query of a graph. -/
def en (g : ℕ) (t : Fin T) (i : Fin 2000) : ℝ := ∑ d, Qr g d * X t i d

/-- What the scratch holds after `n` tiles. -/
def Inv (n : ℕ) (s : St Ideal) : Prop :=
  ∀ g : Fin 512, Row gr (en Qr X) X n g.val (s.M (ix2 g 0)) (s.S (ix2 g 0)) (fun d => s.R (ix2 g d))

theorem step_inv (t : Fin T) (x : Vec Ideal S1x2000x128 .f32) (b : Vec Ideal S1x1x2000 .i32) (Q : Vec Ideal S512x128 .f32)
    (hg : ∀ i, IsGraph (b i)) (hb : ∀ i, (b (ix3 0 0 i)).toNat = gr t i) (hx : ∀ i d, x (ix3 0 i d) = (X t i d : ℝ))
    (hQ : ∀ (g : Fin 512) d, Q (ix2 g d) = (Qr g.val d : ℝ)) (hw : k0_chk2 (lo b) (hi b)) (s : St Ideal) (h : Inv gr Qr X t.val s) :
    Inv gr Qr X (t.val + 1) (stepSt i32 i512 x b Q hw s) := by
  obtain ⟨nr, hn⟩ := neg_real
  have hE : ∀ (g : ℕ) (i : Fin 2000) (f : Fin 128 → EReal), (∀ d, f d = (Qr g d : ℝ)) → ∑ d, f d * x (ix3 0 i d) = (en Qr X g t i : ℝ) := fun g i f hf => by
    rw [en, coe_sum]
    exact Finset.sum_congr rfl fun d _ => by rw [hf, hx, EReal.coe_mul]
  unfold stepSt
  split
  · rename_i hW
    intro g
    have key := tile (E := en Qr X) (X := X) t (fun r : Fin 512 => r.val) Fin.val_injective (wMask b)
      (fun r i => by rw [mask_wide, hb]) (wE x Q) (fun r i => by rw [wE_eq]; exact hE _ _ _ (hQ r))
      (fun i d => x (ix3 0 i d)) hx nr (fun r => s.M (ix2 r 0)) (fun r => s.S (ix2 r 0)) (fun r d => s.R (ix2 r d)) h g
    rw [← hn] at key
    rw [wide_M, wide_S]
    simp only [wide_R]
    exact key
  · rename_i hW
    obtain ⟨hB, hin⟩ := narrow_window b hg hW
    have i1 : ∀ a, k0_off7 (lo b) a + S32x128.size a ≤ S512x128.size a := hw.1 ((narrow_iff _ _).2 hW)
    have i2 : ∀ a, k0_off8 (lo b) a + S32x1.size a ≤ S512x1.size a := hw.2 ((narrow_iff _ _).2 hW)
    show Inv gr Qr X (t.val + 1) (narrowSt i32 x b Q i1 i2 s)
    have hlt : ∀ r : Fin 32, (base (lo b)).toNat + r.val < 512 := fun r => by omega
    intro g
    by_cases hgr : (base (lo b)).toNat ≤ g.val ∧ g.val < (base (lo b)).toNat + 32
    · obtain ⟨r, hr⟩ : ∃ r : Fin 32, g = ⟨(base (lo b)).toNat + r.val, hlt r⟩ := ⟨⟨g.val - (base (lo b)).toNat, by omega⟩, Fin.ext (by simp; omega)⟩
      have q_row : ∀ (r : Fin 32) d, VecWindow.window Q (k0_off7 (lo b)) S32x128.size i1 (ix2 r d) = Q (ix2 ⟨(base (lo b)).toNat + r.val, hlt r⟩ d) :=
        fun r d => window_row Q _ i1 r d _
      have m_row : ∀ (r : Fin 32), VecWindow.window s.M (k0_off8 (lo b)) S32x1.size i2 (ix2 r 0) = s.M (ix2 ⟨(base (lo b)).toNat + r.val, hlt r⟩ 0) :=
        fun r => window_row s.M _ i2 r 0 _
      have s_row : ∀ (r : Fin 32), VecWindow.window s.S (k0_off8 (lo b)) S32x1.size i2 (ix2 r 0) = s.S (ix2 ⟨(base (lo b)).toNat + r.val, hlt r⟩ 0) :=
        fun r => window_row s.S _ i2 r 0 _
      have R_row : ∀ (r : Fin 32) d, VecWindow.window s.R (k0_off7 (lo b)) S32x128.size i1 (ix2 r d) = s.R (ix2 ⟨(base (lo b)).toNat + r.val, hlt r⟩ d) :=
        fun r d => window_row s.R _ i1 r d _
      have key := tile (E := en Qr X) (X := X) t (fun r : Fin 32 => (base (lo b)).toNat + r.val) (fun r r' e => Fin.ext (by simpa using e)) (nMask b (base (lo b)))
        (fun r i => by rw [mask_narrow _ _ hB, hb]) (nE x (VecWindow.window Q (k0_off7 (lo b)) S32x128.size i1))
        (fun r i => by rw [nE_eq]; exact hE _ _ _ fun d => by rw [q_row]; exact hQ _ d)
        (fun i d => x (ix3 0 i d)) hx nr
        (fun r => VecWindow.window s.M (k0_off8 (lo b)) S32x1.size i2 (ix2 r 0))
        (fun r => VecWindow.window s.S (k0_off8 (lo b)) S32x1.size i2 (ix2 r 0))
        (fun r d => VecWindow.window s.R (k0_off7 (lo b)) S32x128.size i1 (ix2 r d))
        (fun r => by simp only [m_row, s_row, R_row]; exact h ⟨(base (lo b)).toNat + r.val, hlt r⟩) r
      rw [← hn] at key
      subst hr
      have eM : (narrowSt i32 x b Q i1 i2 s).M (ix2 ⟨(base (lo b)).toNat + r.val, hlt r⟩ 0) = _ :=
        (put_row s.M _ _ r 0 _).trans (pay30_eq x b _ _ _ r)
      have eS : (narrowSt i32 x b Q i1 i2 s).S (ix2 ⟨(base (lo b)).toNat + r.val, hlt r⟩ 0) = _ :=
        (put_row s.S _ _ r 0 _).trans (pay43_eq x b _ _ _ _ r)
      have eR : ∀ d, (narrowSt i32 x b Q i1 i2 s).R (ix2 ⟨(base (lo b)).toNat + r.val, hlt r⟩ d) = _ :=
        fun d => (put_row s.R _ _ r d _).trans (pay44_eq x b _ _ _ _ r d)
      rw [eM, eS]
      simp only [eR]
      exact key
    · have hg' : g.val < (base (lo b)).toNat ∨ (base (lo b)).toNat + 32 ≤ g.val := by omega
      have eM : (narrowSt i32 x b Q i1 i2 s).M (ix2 g 0) = s.M (ix2 g 0) := put_else s.M _ _ g 0 hg'
      have eS : (narrowSt i32 x b Q i1 i2 s).S (ix2 g 0) = s.S (ix2 g 0) := put_else s.S _ _ g 0 hg'
      have eR : ∀ d, (narrowSt i32 x b Q i1 i2 s).R (ix2 g d) = s.R (ix2 g d) := fun d => put_else s.R _ _ g d hg'
      rw [eM, eS]
      simp only [eR]
      exact skip t g.val (fun i => by have := hin (ix3 0 0 i); rw [← hb]; omega) (h g)

/-! ### The whole loop -/

/-- At a step's start the sums are empty. -/
theorem st0_inv : Inv gr Qr X 0 (st0 (F := Ideal)) := fun g => by
  obtain ⟨nr, hn⟩ := neg_real
  have h0 : ∀ f : Fin T → ℝ, ((upTo f 0 : ℝ) : EReal) = 0 := fun f => by rw [upTo_zero]; rfl
  refine ⟨nr, ?_, ?_, fun d => ?_⟩
  · rw [← hn]; show k0_pay89 (F := Ideal) (ix2 g 0) = _; unfold k0_pay89; pointwise
  · rw [h0]; show k0_pay90 (F := Ideal) (ix2 g 0) = _; unfold k0_pay90; pointwise
  · rw [h0]; show k0_pay91 (F := Ideal) (ix2 g d) = _; unfold k0_pay91; pointwise

end Cert.Proof.K
end
-- ==== Proof.Count.lean ====
module

public import proofs.«01_k».proof.Proof.Tiles
public import Idealize.ShloMosaic.Lib.Pointwise

@[expose] public section

set_option maxRecDepth 16384

noncomputable section

/-! ## The kernel's node counts -/

namespace Cert.Proof.K

open Cert.KernelIdeal Cert.KernelIdeal.Gen Idealize.ShloMosaic Cert.Proof.Soft

/-- A bit, widened and taken as a number. -/
theorem bit_num (v : BitVec 1) : (FloatOps.sitofp FTy.f32 (BitVec.setWidth 32 v) : Ideal FTy.f32) = ((if v = 1 then 1 else 0 : ℝ) : EReal) := by
  have h : v = 0#1 ∨ v = 1#1 := by revert v; decide
  rcases h with rfl | rfl
  · show (((BitVec.setWidth 32 0#1).toInt : ℝ) : EReal) = _
    simp
  · show (((BitVec.setWidth 32 1#1).toInt : ℝ) : EReal) = _
    rw [show (if 1#1 = (1 : BitVec 1) then (1 : ℝ) else 0) = 1 from if_pos rfl]
    norm_num

theorem wide_count (b : Vec Ideal S1x1x2000 .i32) (C : Vec Ideal S512x1 .f32) (g : Fin 512) :
    k0_pay94 (k0_pay11 i512 (k0_pay40 (F := Ideal) b)) C (ix2 g 0) = C (ix2 g 0) + ((∑ i : Fin 2000, if (b (ix3 0 0 i)).toNat = g.val then 1 else 0 : ℝ) : EReal) := by
  rw [coe_sum]
  unfold k0_pay94 k0_pay40 k0_pay11 i512
  pointwise
  refine congrArg (_ + ·) (Finset.sum_congr rfl fun i _ => ?_)
  rw [bit_num]
  refine congrArg Real.toEReal ?_
  refine if_congr ?_ rfl rfl
  rw [eq_word, BitVec.toNat_ofNat, Nat.mod_eq_of_lt (by omega)]

theorem narrow_count (b : Vec Ideal S1x1x2000 .i32) (C : Vec Ideal S32x1 .f32) (B : BitVec 32) (hB : B.toNat ≤ 480) (r : Fin 32) :
    k0_pay24 (k0_pay4 i32 (k0_pay40 (F := Ideal) b) B) C (ix2 r 0) = C (ix2 r 0) + ((∑ i : Fin 2000, if (b (ix3 0 0 i)).toNat = B.toNat + r.val then 1 else 0 : ℝ) : EReal) := by
  rw [coe_sum]
  unfold k0_pay24 k0_pay40 k0_pay4 i32
  pointwise
  refine congrArg (_ + ·) (Finset.sum_congr rfl fun i _ => ?_)
  rw [bit_num]
  refine congrArg Real.toEReal ?_
  refine if_congr ?_ rfl rfl
  rw [eq_word, IntOp.addi, BitVec.toNat_add, BitVec.toNat_ofNat, Nat.mod_eq_of_lt (by omega), Nat.mod_eq_of_lt (by omega), Nat.add_comm]

variable {T : ℕ} (gr : Fin T → Fin 2000 → ℕ)

/-- The counts after `n` tiles. -/
def CInv (n : ℕ) (C : Vec Ideal S512x1 .f32) : Prop :=
  ∀ g : Fin 512, C (ix2 g 0) = (upTo (fun t => ∑ i, if gr t i = g.val then 1 else 0) n : ℝ)

theorem count_inv (t : Fin T) (b : Vec Ideal S1x1x2000 .i32) (hg : ∀ i, IsGraph (b i)) (hb : ∀ i, (b (ix3 0 0 i)).toNat = gr t i)
    (hw : k0_chk2 (lo b) (hi b)) (C : Vec Ideal S512x1 .f32) (h : CInv gr t.val C) : CInv gr (t.val + 1) (stepC i32 i512 b hw C) := by
  unfold stepC
  split
  · intro g
    rw [wide_count, h g, upTo_succ, EReal.coe_add]
    simp only [hb]
  · rename_i hW
    obtain ⟨hB, hin⟩ := narrow_window b hg hW
    have i2 : ∀ a, k0_off8 (lo b) a + S32x1.size a ≤ S512x1.size a := hw.2 ((narrow_iff _ _).2 hW)
    have hlt : ∀ r : Fin 32, (base (lo b)).toNat + r.val < 512 := fun r => by omega
    intro g
    by_cases hgr : (base (lo b)).toNat ≤ g.val ∧ g.val < (base (lo b)).toNat + 32
    · obtain ⟨r, hr⟩ : ∃ r : Fin 32, g = ⟨(base (lo b)).toNat + r.val, hlt r⟩ := ⟨⟨g.val - (base (lo b)).toNat, by omega⟩, Fin.ext (by simp; omega)⟩
      subst hr
      refine ((put_row C _ _ r 0 _).trans (narrow_count b _ _ hB r)).trans ?_
      rw [show VecWindow.window C (k0_off8 (lo b)) S32x1.size i2 (ix2 r 0) = C (ix2 ⟨(base (lo b)).toNat + r.val, hlt r⟩ 0) from window_row C _ i2 r 0 (hlt r), h ⟨(base (lo b)).toNat + r.val, hlt r⟩, upTo_succ, EReal.coe_add]
      simp only [hb]
    · have hg' : g.val < (base (lo b)).toNat ∨ (base (lo b)).toNat + 32 ≤ g.val := by omega
      refine (put_else C _ _ g 0 hg').trans ?_
      rw [h g, upTo_succ]
      have : (∑ i, if gr t i = g.val then (1 : ℝ) else 0) = 0 := Finset.sum_eq_zero fun i _ => if_neg (by have := hin (ix3 0 0 i); rw [← hb]; omega)
      rw [this, add_zero]

end Cert.Proof.K
end
-- ==== Proof.Model.lean ====
module

public import proofs.«01_k».proof.Proof.Soft

@[expose] public section

noncomputable section

/-! ## What both programs compute: attention over each graph's nodes and an LSTM cell, as functions of numbers -/

namespace Cert.Proof.Model

open Idealize.ShloMosaic Cert.Proof.Soft

variable {T : ℕ} (gr : Fin T → Fin 2000 → ℕ) (X : Fin T → Fin 2000 → Fin 128 → ℝ)

/-- The score of a node against the query of graph `g`. -/
def score (q : ℕ → Fin 128 → ℝ) (g : ℕ) (t : Fin T) (i : Fin 2000) : ℝ := ∑ d, q g d * X t i d

/-- The sum of the weights of graph `g`. -/
def den (q : ℕ → Fin 128 → ℝ) (g : ℕ) : ℝ := ∑ t, ∑ i, if gr t i = g then Real.exp (score X q g t i) else 0

/-- The sum of the weighted rows of graph `g`, lane `d`. -/
def num (q : ℕ → Fin 128 → ℝ) (g : ℕ) (d : Fin 128) : ℝ := ∑ t, ∑ i, (if gr t i = g then Real.exp (score X q g t i) else 0) * X t i d

/-- How many nodes graph `g` has. -/
def cnt (g : ℕ) : ℝ := ∑ t, ∑ i, if gr t i = g then 1 else 0

/-- The readout of graph `g`: the attention mean over the node count (0 for a graph without nodes). -/
def rd (q : ℕ → Fin 128 → ℝ) (g : ℕ) (d : Fin 128) : ℝ := num gr X q g d / den gr X q g / max (cnt gr g) 1

/-- Taking `m` off every exponent scales the weights' sum. -/
theorem wsum_all (q : ℕ → Fin 128 → ℝ) (g : ℕ) (m : ℝ) : ∑ t, wsum gr (score X q) g m t = den gr X q g * Real.exp (-m) := by
  rw [den, Finset.sum_mul]
  refine Finset.sum_congr rfl fun t _ => ?_
  rw [wsum, Finset.sum_mul]
  refine Finset.sum_congr rfl fun i _ => ?_
  split
  · rw [← Real.exp_add, sub_eq_add_neg]
  · rw [zero_mul]

theorem xsum_all (q : ℕ → Fin 128 → ℝ) (g : ℕ) (m : ℝ) (d : Fin 128) :
    ∑ t, xsum gr (score X q) X g m d t = num gr X q g d * Real.exp (-m) := by
  rw [num, Finset.sum_mul]
  refine Finset.sum_congr rfl fun t _ => ?_
  rw [xsum, Finset.sum_mul]
  refine Finset.sum_congr rfl fun i _ => ?_
  split
  · rw [sub_eq_add_neg, Real.exp_add]; ring
  · rw [zero_mul, zero_mul]

theorem den_nonneg (q : ℕ → Fin 128 → ℝ) (g : ℕ) : 0 ≤ den gr X q g :=
  Finset.sum_nonneg fun t _ => Finset.sum_nonneg fun i _ => by split <;> [exact (Real.exp_pos _).le; exact le_refl _]

/-- A quotient of reals, the divisor not zero. -/
theorem div_real (a b : ℝ) (h : b ≠ 0) : Ideal.div (a : EReal) (b : EReal) = ((a / b : ℝ) : EReal) := by
  rw [Ideal.div_coe h, ← EReal.coe_mul, mul_one_div]

/-- The readout, from the two sums taken at any shift `m`: the guarded quotient over the count. -/
theorem readout (q : ℕ → Fin 128 → ℝ) (g : ℕ) (d : Fin 128) (m : ℝ) (S R C : EReal)
    (hS : S = ((den gr X q g * Real.exp (-m) : ℝ) : EReal)) (hR : R = ((num gr X q g d * Real.exp (-m) : ℝ) : EReal)) (hC : C = (cnt gr g : ℝ)) :
    Ideal.div (if 0 < S then Ideal.div R (if 0 < S then S else 1) else 0) (max C 1) = (rd gr X q g d : ℝ) := by
  have h1 : (max C 1 : EReal) = ((max (cnt gr g) 1 : ℝ) : EReal) := by
    rw [hC, ← EReal.coe_one, ← EReal.coe_strictMono.monotone.map_max]
  have hn : max (cnt gr g) 1 ≠ 0 := (lt_of_lt_of_le one_pos (le_max_right _ _)).ne'
  have he := Real.exp_pos (-m)
  by_cases hd : den gr X q g = 0
  · have h0 : ¬ (0 : EReal) < S := by rw [hS, hd, zero_mul]; simp
    rw [if_neg h0, h1, ← EReal.coe_zero, div_real _ _ hn, rd, hd, div_zero]
  · have hp : 0 < den gr X q g * Real.exp (-m) := mul_pos (lt_of_le_of_ne (den_nonneg gr X q g) (Ne.symm hd)) he
    have h0 : (0 : EReal) < S := by rw [hS]; exact_mod_cast hp
    rw [if_pos h0, if_pos h0, h1, hS, hR, div_real _ _ hp.ne', div_real _ _ hn, rd, mul_div_mul_right _ _ he.ne']

/-! ### The cell -/

/-- A hidden state and a cell state, by graph and lane. -/
structure Hid where
  h : ℕ → Fin 128 → ℝ
  c : ℕ → Fin 128 → EReal

variable (Wi : Fin 512 → Fin 256 → EReal) (Wh : Fin 512 → Fin 128 → EReal) (bias : Fin 512 → EReal)

/-- Gate `k` of graph `g`: the query and the readout through one matrix, the hidden state through the other, and the bias. -/
def gate (q r h : ℕ → Fin 128 → ℝ) (g : ℕ) (k : Fin 512) : EReal :=
  ∑ x : Fin 128, (q g x : EReal) * Wi k ⟨x.val, by omega⟩ + ∑ x : Fin 128, (r g x : EReal) * Wi k ⟨128 + x.val, by omega⟩ + ∑ x, (h g x : EReal) * Wh k x + bias k

/-- The gate of a step: the hidden state is the query, the readout is taken with it. -/
def gateOf (s : Hid) : ℕ → Fin 512 → EReal := gate Wi Wh bias s.h (rd gr X s.h) s.h

/-- The next cell state. -/
def nextC (s : Hid) (g : ℕ) (d : Fin 128) : EReal :=
  Ideal.logistic (gateOf gr X Wi Wh bias s g ⟨128 + d.val, by omega⟩) * s.c g d
    + Ideal.logistic (gateOf gr X Wi Wh bias s g ⟨d.val, by omega⟩) * Ideal.tanh (gateOf gr X Wi Wh bias s g ⟨256 + d.val, by omega⟩)

/-- The next hidden state. -/
def nextH (s : Hid) (g : ℕ) (d : Fin 128) : ℝ :=
  (Ideal.logistic (gateOf gr X Wi Wh bias s g ⟨384 + d.val, by omega⟩) * Ideal.tanh (nextC gr X Wi Wh bias s g d)).toReal

theorem logistic_real (x : EReal) : ∃ r : ℝ, Ideal.logistic x = r := by
  induction x with
  | bot => exact ⟨0, by simp⟩
  | top => exact ⟨1, by simp⟩
  | coe r => exact ⟨_, Ideal.logistic_coe r⟩

theorem tanh_real (x : EReal) : ∃ r : ℝ, Ideal.tanh x = r := by
  induction x with
  | bot => exact ⟨-1, by simp⟩
  | top => exact ⟨1, by simp⟩
  | coe r => exact ⟨_, Ideal.tanh_coe r⟩

/-- The next hidden state is a real number, whatever the cell state. -/
theorem coe_nextH (s : Hid) (g : ℕ) (d : Fin 128) :
    (nextH gr X Wi Wh bias s g d : EReal) = Ideal.logistic (gateOf gr X Wi Wh bias s g ⟨384 + d.val, by omega⟩) * Ideal.tanh (nextC gr X Wi Wh bias s g d) := by
  rw [nextH]
  obtain ⟨a, ha⟩ := logistic_real (gateOf gr X Wi Wh bias s g ⟨384 + d.val, by omega⟩)
  obtain ⟨b, hb⟩ := tanh_real (nextC gr X Wi Wh bias s g d)
  rw [ha, hb, ← EReal.coe_mul, EReal.toReal_coe]

/-- One step. -/
def next (s : Hid) : Hid := ⟨nextH gr X Wi Wh bias s, nextC gr X Wi Wh bias s⟩

/-- The start: both states zero. -/
def start : Hid := ⟨fun _ _ => 0, fun _ _ => 0⟩

/-- The states after `n` steps. -/
def after : ℕ → Hid
  | 0 => start
  | n + 1 => next gr X Wi Wh bias (after n)

/-- The result: the last hidden state beside the last readout. -/
def out (g : ℕ) (k : Fin 256) : EReal :=
  if h : k.val < 128 then ((after gr X Wi Wh bias 4).h g ⟨k.val, h⟩ : ℝ) else (rd gr X (after gr X Wi Wh bias 3).h g ⟨k.val - 128, by omega⟩ : ℝ)

end Cert.Proof.Model
end
-- ==== Proof.Loop.lean ====
module

public import proofs.«01_k».proof.Proof.Steps
public import proofs.«01_k».proof.Proof.Count
public import proofs.«01_k».proof.Proof.Model

@[expose] public section

set_option maxRecDepth 16384

noncomputable section

/-! ## The kernel's result, as the model's -/

namespace Cert.Proof.K

open Cert.KernelIdeal Cert.KernelIdeal.Gen Idealize.ShloMosaic Cert.Proof.Soft

variable (gr : Fin k0_t2_loop.trips → Fin 2000 → ℕ) (X : Fin k0_t2_loop.trips → Fin 2000 → Fin 128 → ℝ)
  (x3 : Vec Ideal S50x2000x128 .f32) (b3 : Vec Ideal S50x1x2000 .i32) (hw : Tiles b3)

/-- The tiles hold the graph numbers `gr` and the rows `X`. -/
structure Holds : Prop where
  graph : ∀ t i, IsGraph (bt b3 t i)
  num : ∀ t i, (bt b3 t (ix3 0 0 i)).toNat = gr t i
  row : ∀ t i d, xt x3 t (ix3 0 i d) = (X t i d : ℝ)

variable {gr X x3 b3} (H : Holds gr X x3 b3)
include H

theorem run_inv (Qr : ℕ → Fin 128 → ℝ) (Q : Vec Ideal S512x128 .f32) (hQ : ∀ (g : Fin 512) d, Q (ix2 g d) = (Qr g.val d : ℝ)) :
    ∀ n ≤ k0_t2_loop.trips, Inv gr Qr X n (runSt x3 b3 hw i32 i512 Q st0 n)
  | 0, _ => st0_inv gr Qr X
  | n + 1, h => by
    have := run_inv Qr Q hQ n (by omega)
    rw [runSt_succ x3 b3 hw i32 i512 Q st0 ⟨n, h⟩]
    exact step_inv gr Qr X ⟨n, h⟩ _ _ Q (H.graph _) (H.num _) (H.row _) hQ _ _ this

theorem runC_inv : ∀ n ≤ k0_t2_loop.trips, CInv gr n (runC b3 hw i32 i512 (k0_pay92 (F := Ideal)) n)
  | 0, _ => fun g => by
    rw [upTo_zero]
    show k0_pay92 (F := Ideal) (ix2 g 0) = _
    unfold k0_pay92
    pointwise
    rfl
  | n + 1, h => by
    have := runC_inv n (by omega)
    rw [runC_succ (F := Ideal) b3 hw i32 i512 (k0_pay92 (F := Ideal)) ⟨n, h⟩]
    exact count_inv gr ⟨n, h⟩ _ (H.graph _) (H.num _) _ _ this

theorem counts_eq (g : Fin 512) : counts b3 hw (ix2 g 0) = (Model.cnt gr g.val : ℝ) := by
  have h := runC_inv hw H _ le_rfl g
  rw [upTo_all] at h
  exact h

/-- What a step's loop leaves reads out as the model's readout. -/
theorem step_readout (q : ℕ → Fin 128 → ℝ) (Q : Vec Ideal S512x128 .f32) (hQ : ∀ (g : Fin 512) d, Q (ix2 g d) = (q g.val d : ℝ)) (g : Fin 512) (d : Fin 128) :
    Ideal.div (if 0 < (stepEnd x3 b3 hw Q).S (ix2 g 0) then Ideal.div ((stepEnd x3 b3 hw Q).R (ix2 g d)) (if 0 < (stepEnd x3 b3 hw Q).S (ix2 g 0) then (stepEnd x3 b3 hw Q).S (ix2 g 0) else 1) else 0)
      (max (counts b3 hw (ix2 g 0)) 1) = (Model.rd gr X q g.val d : ℝ) := by
  obtain ⟨m, -, hS, hR⟩ := run_inv hw H q Q hQ _ le_rfl g
  rw [upTo_all] at hS
  replace hR := hR d
  dsimp only at hR
  rw [upTo_all] at hR
  rw [show en q X = Model.score X q from rfl, Model.wsum_all] at hS
  rw [show en q X = Model.score X q from rfl, Model.xsum_all] at hR
  have hC := counts_eq hw H g
  generalize (stepEnd x3 b3 hw Q).S (ix2 g 0) = S at hS ⊢
  generalize (stepEnd x3 b3 hw Q).R (ix2 g d) = R at hR ⊢
  generalize counts b3 hw (ix2 g 0) = C at hC ⊢
  exact Model.readout gr X q g.val d m S R C hS hR hC

omit H

/-! ### The cell -/

section
variable (v0 : Vec Ideal S512x256 .f32) (v1 : Vec Ideal S512x128 .f32) (v3 : FVec Ideal S1x512 .f32) (c h Q R : FVec Ideal S512x128 .f32) (S C : Vec Ideal S512x1 .f32)

theorem pay113_eq (g : Fin 512) (k : Fin 512) : k0_pay113 v0 v1 v3 h S R C Q (ix2 g k) =
    ∑ x : Fin 128, Q (ix2 g x) * v0 (ix2 k ⟨x.val, by omega⟩)
      + ∑ x : Fin 128, Ideal.div (if 0 < S (ix2 g 0) then Ideal.div (R (ix2 g x)) (if 0 < S (ix2 g 0) then S (ix2 g 0) else 1) else 0) (max (C (ix2 g 0)) 1) * v0 (ix2 k ⟨128 + x.val, by omega⟩)
      + ∑ x : Fin 128, h (ix2 g x) * v1 (ix2 k x) + v3 (ix2 0 k) := by
  unfold k0_pay113
  pointwise

theorem pay114_eq (g : Fin 512) (d : Fin 128) : k0_pay114 v0 v1 v3 c h S R C Q (ix2 g d) =
    Ideal.logistic (k0_pay113 v0 v1 v3 h S R C Q (ix2 g ⟨128 + d.val, by omega⟩)) * c (ix2 g d)
      + Ideal.logistic (k0_pay113 v0 v1 v3 h S R C Q (ix2 g ⟨d.val, by omega⟩)) * Ideal.tanh (k0_pay113 v0 v1 v3 h S R C Q (ix2 g ⟨256 + d.val, by omega⟩)) := by
  unfold k0_pay114
  pointwise

theorem pay115_eq (g : Fin 512) (d : Fin 128) : k0_pay115 v0 v1 v3 c h S R C Q (ix2 g d) =
    Ideal.logistic (k0_pay113 v0 v1 v3 h S R C Q (ix2 g ⟨384 + d.val, by omega⟩)) * Ideal.tanh (k0_pay114 v0 v1 v3 c h S R C Q (ix2 g d)) := by
  unfold k0_pay115
  pointwise

theorem pay116_eq : k0_pay116 Q = Q := by
  unfold k0_pay116
  refine funext fun i => ?_
  rw [eq_ix2 i]
  pointwise

end

/-- Two arrays hold a model state. -/
def Reads (h c : FVec Ideal S512x128 .f32) (s : Model.Hid) : Prop :=
  ∀ (g : Fin 512) (d : Fin 128), h (ix2 g d) = (s.h g.val d : ℝ) ∧ c (ix2 g d) = s.c g.val d

variable (v0 : Vec Ideal S512x256 .f32) (v1 : Vec Ideal S512x128 .f32) (v3 : FVec Ideal S1x512 .f32)

/-- The next model state under the kernel's weights. -/
abbrev nx (gr : Fin k0_t2_loop.trips → Fin 2000 → ℕ) (X : Fin k0_t2_loop.trips → Fin 2000 → Fin 128 → ℝ) : Model.Hid → Model.Hid :=
  Model.next gr X (fun k x => v0 (ix2 k x)) (fun k x => v1 (ix2 k x)) (fun k => v3 (ix2 0 k))

include H in
/-- One step of the kernel keeps its states at the model's. -/
theorem cell (s : Model.Hid) (h c Q : FVec Ideal S512x128 .f32) (hs : Reads h c s) (hQ : ∀ (g : Fin 512) d, Q (ix2 g d) = (s.h g.val d : ℝ)) :
    Reads (k0_pay115 v0 v1 v3 c h (stepEnd x3 b3 hw Q).S (stepEnd x3 b3 hw Q).R (counts b3 hw) Q)
      (k0_pay114 v0 v1 v3 c h (stepEnd x3 b3 hw Q).S (stepEnd x3 b3 hw Q).R (counts b3 hw) Q) (nx v0 v1 v3 gr X s) := by
  have hgate : ∀ (g : Fin 512) k, k0_pay113 v0 v1 v3 h (stepEnd x3 b3 hw Q).S (stepEnd x3 b3 hw Q).R (counts b3 hw) Q (ix2 g k) =
      Model.gateOf gr X (fun k x => v0 (ix2 k x)) (fun k x => v1 (ix2 k x)) (fun k => v3 (ix2 0 k)) s g.val k := fun g k => by
    rw [pay113_eq]
    simp only [step_readout hw H s.h Q hQ, hQ, (hs _ _).1]
    rfl
  have hc : ∀ (g : Fin 512) d, k0_pay114 v0 v1 v3 c h (stepEnd x3 b3 hw Q).S (stepEnd x3 b3 hw Q).R (counts b3 hw) Q (ix2 g d) = (nx v0 v1 v3 gr X s).c g.val d := fun g d => by
    rw [pay114_eq]
    simp only [hgate, (hs _ _).2]
    rfl
  refine fun g d => ⟨?_, hc g d⟩
  rw [pay115_eq, hgate, hc]
  exact (Model.coe_nextH gr X _ _ _ s g.val d).symm

theorem zero_reads : Reads (k0_pay87 (F := Ideal)) (k0_pay88 (F := Ideal)) Model.start := fun g d => by
  constructor
  · unfold k0_pay87; pointwise; rfl
  · unfold k0_pay88; pointwise; rfl

theorem zero_query (g : Fin 512) (d : Fin 128) : k0_pay86 (F := Ideal) (ix2 g d) = (Model.start.h g.val d : ℝ) := by
  unfold k0_pay86; pointwise; rfl

/-- The kernel's hidden state, cell state and query after `n` steps. -/
def ks (x3 : Vec Ideal S50x2000x128 .f32) (b3 : Vec Ideal S50x1x2000 .i32) (hw : Tiles b3) : ℕ → FVec Ideal S512x128 .f32 × FVec Ideal S512x128 .f32 × FVec Ideal S512x128 .f32
  | 0 => (k0_pay87, k0_pay88, k0_pay86)
  | n + 1 =>
    let p := ks x3 b3 hw n
    let s := stepEnd x3 b3 hw p.2.2
    let h := k0_pay115 v0 v1 v3 p.2.1 p.1 s.S s.R (counts b3 hw) p.2.2
    (h, k0_pay114 v0 v1 v3 p.2.1 p.1 s.S s.R (counts b3 hw) p.2.2, k0_pay116 h)

include H in
theorem ks_reads : ∀ n, Reads (ks v0 v1 v3 x3 b3 hw n).1 (ks v0 v1 v3 x3 b3 hw n).2.1 (Model.after gr X (fun k x => v0 (ix2 k x)) (fun k x => v1 (ix2 k x)) (fun k => v3 (ix2 0 k)) n)
    ∧ ∀ (g : Fin 512) d, (ks v0 v1 v3 x3 b3 hw n).2.2 (ix2 g d) = ((Model.after gr X (fun k x => v0 (ix2 k x)) (fun k x => v1 (ix2 k x)) (fun k => v3 (ix2 0 k)) n).h g.val d : ℝ)
  | 0 => ⟨zero_reads, zero_query⟩
  | n + 1 => by
    obtain ⟨h1, h2⟩ := ks_reads n
    have h3 := cell hw H v0 v1 v3 _ _ _ _ h1 h2
    refine ⟨h3, fun g d => ?_⟩
    exact (congrFun (pay116_eq _) _).trans (h3 g d).1

theorem outV_steps (bi : Vec Ideal S1x512 .f32) : outV x3 b3 hw v0 v1 bi =
    k0_pay3 (k0_pay121 (stepEnd x3 b3 hw (ks v0 v1 (k0_pay85 bi) x3 b3 hw 3).2.2).S (stepEnd x3 b3 hw (ks v0 v1 (k0_pay85 bi) x3 b3 hw 3).2.2).R) (k0_pay122 (counts b3 hw))
      (ks v0 v1 (k0_pay85 bi) x3 b3 hw 4).2.2 := rfl

theorem pay3_left (S C : Vec Ideal S512x1 .f32) (R Q : FVec Ideal S512x128 .f32) (g : Fin 512) (d : Fin 128) :
    k0_pay3 (k0_pay121 S R) (k0_pay122 C) Q (ix2 g ⟨d.val, by omega⟩) = Q (ix2 g d) := by
  unfold k0_pay3
  pointwise

theorem pay3_right (S C : Vec Ideal S512x1 .f32) (R Q : FVec Ideal S512x128 .f32) (g : Fin 512) (d : Fin 128) :
    k0_pay3 (k0_pay121 S R) (k0_pay122 C) Q (ix2 g ⟨128 + d.val, by omega⟩) =
      Ideal.div (if 0 < S (ix2 g 0) then Ideal.div (R (ix2 g d)) (if 0 < S (ix2 g 0) then S (ix2 g 0) else 1) else 0) (max (C (ix2 g 0)) 1) := by
  unfold k0_pay3 k0_pay1 k0_pay121 k0_pay122
  pointwise

include H in
/-- The kernel's result is the model's. -/
theorem outV_eq (bi : Vec Ideal S1x512 .f32) (g : Fin 512) (k : Fin 256) :
    outV x3 b3 hw v0 v1 bi (ix2 g k) = Model.out gr X (fun k x => v0 (ix2 k x)) (fun k x => v1 (ix2 k x)) (fun k => k0_pay85 bi (ix2 0 k)) g.val k := by
  rw [outV_steps]
  unfold Model.out
  split
  · rename_i hk
    exact (pay3_left _ _ _ _ g ⟨k.val, hk⟩).trans ((ks_reads hw H v0 v1 (k0_pay85 bi) 4).2 g ⟨k.val, hk⟩)
  · rename_i hk
    obtain ⟨d, rfl⟩ : ∃ d : Fin 128, k = ⟨128 + d.val, Nat.add_lt_add_left d.isLt 128⟩ := ⟨⟨k.val - 128, by omega⟩, Fin.ext (by simp; omega)⟩
    refine (pay3_right _ _ _ _ g d).trans ((step_readout hw H _ _ (ks_reads hw H v0 v1 (k0_pay85 bi) 3).2 g d).trans ?_)
    congr 2
    exact Fin.ext (by simp)

end Cert.Proof.K
end
-- ==== Proof.RefStep.lean ====
module

public import proofs.«01_k».proof.Defs
public import proofs.«01_k».proof.Proof.Gen.ReferenceIdeal
public import Idealize.ShloMosaic.Lib.Claim

@[expose] public section

set_option maxRecDepth 16384

noncomputable section

/-! ## One step of the reference, as functions of arrays -/

namespace Cert.Proof.R

open Idealize.ShloMosaic Idealize.ShloMosaic.StableHlo Cert.ReferenceIdeal Cert.ReferenceIdeal.Facts₀

/-- An array of the ideal reading. -/
abbrev A (s : Shape) := FVec Ideal s .f32

/-- A number in every place. -/
abbrev numS (w : BitVec 32) : A S512 := broadcastInDim S512 ![] bcast_S_S512 (constant S_ .f32 w)
/-- A number in every place of the readout. -/
abbrev numR (w : BitVec 32) : A S512x128 := broadcastInDim S512x128 ![] bcast_S_S512x128 (constant S_ .f32 w)

/-- The graph numbers as a column, for the scatters. -/
abbrev sIdx (b : IVec S100000 32) : IVec S100000x1 32 := broadcastInDim S100000x1 ![0] bcast_S100000_S100000x1_0 b

/-- The graph numbers as a column for the gathers: a negative one counts from the end. -/
abbrev gIdx (b : IVec S100000 32) : IVec S100000x1 32 :=
  broadcastInDim S100000x1 ![0] bcast_S100000_S100000x1_0
    (select (cmpi .slt b (broadcastInDim S100000 ![] bcast_S_S100000 (constantI S_ 32 0#32))) (addi b (broadcastInDim S100000 ![] bcast_S_S100000 (constantI S_ 32 512#32))) b)

/-- The node counts. -/
def cntV (b : IVec S100000 32) : A S512 :=
  Host.scatterAdd scatter_S512_S100000x1_S100000_n_0_0_1 (numS 0x00000000#32) (sIdx b) (broadcastInDim S100000 ![] bcast_S_S100000 (constant S_ .f32 0x3F800000#32))

/-- Which node is in which graph. -/
def memV (b : IVec S100000 32) : IVec S512x100000 1 :=
  cmpi .eq (iotaInDim S512x100000 32 0) (broadcastInDim S512x100000 ![0, 1] bcast_S1x100000_S512x100000_0_1 (broadcastInDim S1x100000 ![1] bcast_S100000_S1x100000_1 b))

/-- The nodes' scores. -/
def eV (x : A S100000x128) (b : IVec S100000 32) (q : A S512x128) : A S100000 :=
  Host.reduceAdd (mulf x (Host.gather gather_S512x128_S100000x1_S100000x128_1_0_n_n_0_1_1128 q (gIdx b))) (constant S_ .f32 0x00000000#32) reducesTo_S100000x128_S100000_d1 h_S_

/-- The greatest score of each graph, as it comes. -/
def rawV (mem : IVec S512x100000 1) (e : A S100000) : A S512 :=
  Host.reduce FloatOps.maximumf
    (select mem (broadcastInDim S512x100000 ![0, 1] bcast_S1x100000_S512x100000_0_1 (broadcastInDim S1x100000 ![1] bcast_S100000_S1x100000_1 e))
      (broadcastInDim S512x100000 ![] bcast_S_S512x100000 (id (constant S_ .f32 0xFF800000#32))))
    (constant S_ .f32 0xFF800000#32) reducesTo_S512x100000_S512_d1 h_S_

/-- The greatest score where that is a number, else 0. -/
def maxOf (raw : A S512) : A S512 :=
  select (andi (cmpf .ogt raw (numS 0xFF800000#32)) (cmpf .olt raw (numS 0x7F800000#32))) raw
    (broadcastInDim S512 ![] bcast_S_S512 (id (constant S_ .f32 0x00000000#32)))

/-- The nodes' exponentials, less what `mx` holds for their graph. -/
def exV (b : IVec S100000 32) (e : A S100000) (mx : A S512) : A S100000 :=
  Host.exp (subf e (Host.gather gather_S512_S100000x1_S100000_n_0_n_n_0_1_1 mx (gIdx b)))

/-- The graphs' sums of exponentials. -/
def denV (b : IVec S100000 32) (ex : A S100000) : A S512 := Host.scatterAdd scatter_S512_S100000x1_S100000_n_0_0_1 (numS 0x00000000#32) (sIdx b) ex

/-- The nodes' weights. -/
def attV (b : IVec S100000 32) (ex : A S100000) : A S100000 :=
  Host.divf ex (Host.gather gather_S512_S100000x1_S100000_n_0_n_n_0_1_1 (denV b ex) (gIdx b))

/-- The graphs' weighted sums over the counts. -/
def rdV (x : A S100000x128) (b : IVec S100000 32) (cnt : A S512) (a : A S100000) : A S512x128 :=
  Host.divf
    (Host.scatterAdd scatter_S512x128_S100000x1_S100000x128_1_0_0_1 (numR 0x00000000#32) (sIdx b)
      (mulf (broadcastInDim S100000x128 ![0, 1] bcast_S100000x1_S100000x128_0_1 (broadcastInDim S100000x1 ![0] bcast_S100000_S100000x1_0 a)) x))
    (broadcastInDim S512x128 ![0, 1] bcast_S512x1_S512x128_0_1 (broadcastInDim S512x1 ![0] bcast_S512_S512x1_0 (maximumf cnt (numS 0x3F800000#32))))

/-- The readout of a query. -/
def readV (x : A S100000x128) (b : IVec S100000 32) (cnt : A S512) (mem : IVec S512x100000 1) (q : A S512x128) : A S512x128 :=
  rdV x b cnt (attV b (exV b (eV x b q) (maxOf (rawV mem (eV x b q)))))

/-- The gates. -/
def gateV (Wi : A S512x256) (Wh : A S512x128) (bi bh : A S512) (q r h : A S512x128) : A S512x512 :=
  addf (addf (addf
      (Host.dotGeneral dot_S512x256_S256x512_S512x512_1_0_0_1_n_n none (concatenate S512x256 1 [⟨S512x128, q⟩, ⟨S512x128, r⟩] concatenates_S512x128_S512x128_S512x256_d1)
        (transpose S256x512 [1, 0] Wi transposes_S512x256_S256x512_1_0))
      (Host.dotGeneral dot_S512x128_S128x512_S512x512_1_0_0_1_n_n none h (transpose S128x512 [1, 0] Wh transposes_S512x128_S128x512_1_0)))
    (broadcastInDim S512x512 ![0, 1] bcast_S1x512_S512x512_0_1 (broadcastInDim S1x512 ![1] bcast_S512_S1x512_1 bi)))
    (broadcastInDim S512x512 ![0, 1] bcast_S1x512_S512x512_0_1 (broadcastInDim S1x512 ![1] bcast_S512_S1x512_1 bh))

/-- The logistic function, written out. -/
def sigV (x : A S512x128) : A S512x128 := Host.divf (numR 0x3F800000#32) (addf (numR 0x3F800000#32) (Host.exp (Host.negf x)))

/-- The next cell state from the gates. -/
def cV (g : A S512x512) (c : A S512x128) : A S512x128 :=
  addf (mulf (sigV (extractStridedSlice S512x128 ![0, 128] g slices_S512x512_S512x128_0_128)) c)
    (mulf (sigV (extractStridedSlice S512x128 ![0, 0] g slices_S512x512_S512x128_0_0)) (Host.tanh (extractStridedSlice S512x128 ![0, 256] g slices_S512x512_S512x128_0_256)))

/-- The next hidden state from the gates and the next cell state. -/
def hV (g : A S512x512) (c' : A S512x128) : A S512x128 :=
  mulf (sigV (extractStridedSlice S512x128 ![0, 384] g slices_S512x512_S512x128_0_384)) (Host.tanh c')

end Cert.Proof.R
end
-- ==== Proof.RefRead.lean ====
module

public import proofs.«01_k».proof.Proof.RefRun
public import proofs.«01_k».proof.Proof.RefStep

@[expose] public section

set_option maxRecDepth 200000

noncomputable section

/-! ## What the reference's operations leave, step by step -/

namespace Cert.Proof.R

open Idealize.ShloMosaic Idealize.ShloMosaic.StableHlo Cert.ReferenceIdeal Cert.ReferenceIdeal.Facts₀

/-- Contents of the reference's buffers. -/
abbrev Vl := Valuation τ sig (Elt Ideal)

/-- The array a buffer holds. -/
abbrev at' (W : Vl) (b : Ref sig .tc) := W (Proc.devRef .tc b)

/-- The operations of step `k` from its position `a` on, `n` of them. -/
abbrev part (a n k : ℕ) : List (HloOp τ sig (Elt Ideal)) := (line.1.drop (a + 115 * k)).take n

/-- Where the six parts of a step start: the scores, the raw maxima, the maxima, the exponentials, the readout, the cell. -/
abbrev from' : Fin 6 → ℕ := ![18, 30, 38, 49, 60, 87]
/-- How long the parts are. -/
abbrev len : Fin 6 → ℕ := ![12, 8, 11, 11, 27, 46]
/-- Part `p` of step `k`. -/
abbrev seg (p : Fin 6) (k : Fin 4) : List (HloOp τ sig (Elt Ideal)) := part (from' p) (len p) k.val

/-- The query step `k` starts from. -/
abbrev qAt (W : Vl) : Fin 4 → A S512x128 := ![at' W main_v10, at' W main_v100, at' W main_v189, at' W main_v278]
/-- The hidden state step `k` starts from. -/
abbrev hAt (W : Vl) : Fin 4 → A S512x128 := ![at' W main_v8, at' W main_v100, at' W main_v189, at' W main_v278]
/-- The cell state step `k` starts from. -/
abbrev cAt (W : Vl) : Fin 4 → A S512x128 := ![at' W main_v9, at' W main_v98, at' W main_v187, at' W main_v276]
/-- The scores of step `k`. -/
abbrev eOf (W : Vl) : Fin 4 → A S100000 := ![at' W main_v20, at' W main_v109, at' W main_v198, at' W main_v287]
/-- The raw maxima of step `k`. -/
abbrev rawOf (W : Vl) : Fin 4 → A S512 := ![at' W main_v23, at' W main_v112, at' W main_v201, at' W main_v290]
/-- The maxima of step `k`. -/
abbrev mxOf (W : Vl) : Fin 4 → A S512 := ![at' W main_v29, at' W main_v118, at' W main_v207, at' W main_v296]
/-- The exponentials of step `k`. -/
abbrev exOf (W : Vl) : Fin 4 → A S100000 := ![at' W main_v38, at' W main_v127, at' W main_v216, at' W main_v305]
/-- The readout of step `k`. -/
abbrev rOf (W : Vl) : Fin 4 → A S512x128 := ![at' W main_v60, at' W main_v149, at' W main_v238, at' W main_v327]
/-- The cell state step `k` ends with. -/
abbrev cOf (W : Vl) : Fin 4 → A S512x128 := ![at' W main_v98, at' W main_v187, at' W main_v276, at' W main_v365]
/-- The hidden state step `k` ends with. -/
abbrev hOf (W : Vl) : Fin 4 → A S512x128 := ![at' W main_v100, at' W main_v189, at' W main_v278, at' W main_v367]

/-- The gates of step `k`. -/
abbrev gOf (W : Vl) (k : Fin 4) : A S512x512 :=
  gateV (at' W main_arg2) (at' W main_arg3) (at' W main_arg4) (at' W main_arg5) (qAt W k) (rOf W k) (hAt W k)

variable (W : Vl)

/-- The cell state of a step. -/
theorem cell : ∀ k : Fin 4, cOf (after (seg 5 k) W) k = cV (gOf W k) (cAt W k) := by
  intro k
  fin_cases k <;>
  · dsimp only [seg, part, from', len, cOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp
    rfl

/-- The hidden state of a step. -/
theorem hidden : ∀ k : Fin 4, hOf (after (seg 5 k) W) k = hV (gOf W k) (cV (gOf W k) (cAt W k)) := by
  intro k
  fin_cases k <;>
  · dsimp only [seg, part, from', len, hOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp
    rfl

/-- The scores of a step. -/
theorem scores : ∀ k : Fin 4, eOf (after (seg 0 k) W) k = eV (at' W main_arg0) (at' W main_arg1) (qAt W k) := by
  intro k
  fin_cases k <;>
  · dsimp only [seg, part, from', len, eOf, rawOf, mxOf, exOf, qAt, rOf, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp
    rfl

/-- The raw maxima of a step. -/
theorem raws : ∀ k : Fin 4, rawOf (after (seg 1 k) W) k = rawV (at' W main_v7) (eOf W k) := by
  intro k
  fin_cases k <;>
  · dsimp only [seg, part, from', len, eOf, rawOf, mxOf, exOf, qAt, rOf, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp
    simp only [TRef.ofBuf, TRef.toBuf, cast_eq]
    rfl

/-- The maxima of a step. -/
theorem maxes : ∀ k : Fin 4, mxOf (after (seg 2 k) W) k = maxOf (rawOf W k) := by
  intro k
  fin_cases k <;>
  · dsimp only [seg, part, from', len, eOf, rawOf, mxOf, exOf, qAt, rOf, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp
    simp only [TRef.ofBuf, TRef.toBuf, cast_eq]
    rfl

/-- The exponentials of a step. -/
theorem exps : ∀ k : Fin 4, exOf (after (seg 3 k) W) k = exV (at' W main_arg1) (eOf W k) (mxOf W k) := by
  intro k
  fin_cases k <;>
  · dsimp only [seg, part, from', len, eOf, rawOf, mxOf, exOf, qAt, rOf, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp
    rfl

/-- The readout of a step. -/
theorem reads : ∀ k : Fin 4, rOf (after (seg 4 k) W) k = rdV (at' W main_arg0) (at' W main_arg1) (at' W main_v3) (attV (at' W main_arg1) (exOf W k)) := by
  intro k
  fin_cases k <;>
  · dsimp only [seg, part, from', len, eOf, rawOf, mxOf, exOf, qAt, rOf, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp
    rfl

/-- Two contents agree on the arguments, the counts and the membership. -/
structure Same (W W' : Vl) : Prop where
  x : at' W main_arg0 = at' W' main_arg0
  b : at' W main_arg1 = at' W' main_arg1
  wi : at' W main_arg2 = at' W' main_arg2
  wh : at' W main_arg3 = at' W' main_arg3
  bi : at' W main_arg4 = at' W' main_arg4
  bh : at' W main_arg5 = at' W' main_arg5
  cnt : at' W main_v3 = at' W' main_v3
  mem : at' W main_v7 = at' W' main_v7

/-- No part of a step changes an argument, a count or the membership. -/
theorem same : ∀ (p : Fin 6) (k : Fin 4), Same (after (seg p k) W) W := by
  intro p k
  fin_cases p <;> fin_cases k <;>
  · dsimp only [seg, part, from', len, eOf, rawOf, mxOf, exOf, hOf, cOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    constructor <;> after_reads_simp

/-- No part of a step before the last changes what the step starts from. -/
theorem keep : ∀ (p : Fin 5) (k : Fin 4), qAt (after (seg p.castSucc k) W) k = qAt W k ∧ hAt (after (seg p.castSucc k) W) k = hAt W k ∧ cAt (after (seg p.castSucc k) W) k = cAt W k := by
  intro p k
  fin_cases p <;> fin_cases k <;>
  · dsimp only [seg, part, from', len, eOf, rawOf, mxOf, exOf, hOf, cOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    refine ⟨?_, ?_, ?_⟩ <;> after_reads_simp

/-- The maxima's parts leave the scores. -/
theorem keepE : ∀ k : Fin 4, eOf (after (seg 1 k) W) k = eOf W k ∧ eOf (after (seg 2 k) W) k = eOf W k := by
  intro k
  fin_cases k <;>
  · dsimp only [seg, part, from', len, eOf, rawOf, mxOf, exOf, hOf, cOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    refine ⟨?_, ?_⟩ <;> after_reads_simp

/-- The second half leaves the readout. -/
theorem keepB : ∀ k : Fin 4, rOf (after (seg 5 k) W) k = rOf W k := by
  intro k
  fin_cases k <;>
  · dsimp only [seg, part, from', len, eOf, rawOf, mxOf, exOf, hOf, cOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
    after_reads_simp

/-- The operations before the steps. -/
abbrev pre : List (HloOp τ sig (Elt Ideal)) := line.1.take 18

/-- They count the nodes and lay out the membership. -/
theorem pre_cnt : at' (after pre W) main_v3 = cntV (at' W main_arg1) := by
  unfold pre
  after_reads_simp
  rfl

theorem pre_mem : at' (after pre W) main_v7 = memV (at' W main_arg1) := by
  unfold pre
  after_reads_simp
  rfl

/-- The state starts as zeros. -/
theorem pre_zero : qAt (after pre W) 0 = numR 0x00000000#32 ∧ hAt (after pre W) 0 = numR 0x00000000#32 ∧ cAt (after pre W) 0 = numR 0x00000000#32 := by
  dsimp only [seg, part, from', len, eOf, rawOf, mxOf, exOf, hOf, cOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
  refine ⟨?_, ?_, ?_⟩ <;> (after_reads_simp; try rfl)

/-- They change no argument. -/
theorem pre_args : at' (after pre W) main_arg0 = at' W main_arg0 ∧ at' (after pre W) main_arg1 = at' W main_arg1 ∧ at' (after pre W) main_arg2 = at' W main_arg2
    ∧ at' (after pre W) main_arg3 = at' W main_arg3 ∧ at' (after pre W) main_arg4 = at' W main_arg4 ∧ at' (after pre W) main_arg5 = at' W main_arg5 := by
  refine ⟨?_, ?_, ?_, ?_, ?_, ?_⟩ <;> after_reads_simp

/-- The last operation joins the last state and the last readout. -/
theorem last : at' (after (line.1.drop 478) W) main_v368 =
    concatenate S512x256 1 [⟨S512x128, hOf W 3⟩, ⟨S512x128, rOf W 3⟩] concatenates_S512x128_S512x128_S512x256_d1 := by
  dsimp only [seg, part, from', len, eOf, rawOf, mxOf, exOf, hOf, cOf, gOf, qAt, rOf, hAt, cAt, Fin.isValue, Fin.zero_eta, Fin.mk_one, Fin.reduceFinMk, Matrix.cons_val, Fin.val_zero, Fin.val_one, Fin.val_two, Fin.coe_ofNat_eq_mod, Fin.castSucc_zero, Fin.castSucc_one, Fin.castSucc_mk]
  after_reads_simp
  rfl

end Cert.Proof.R
end
-- ==== Proof.RefEnd.lean ====
module

public import proofs.«01_k».proof.Proof.RefRead

@[expose] public section

set_option maxRecDepth 16384

noncomputable section

/-! ## What the reference returns, as a function of its arguments -/

namespace Cert.Proof.R

open Idealize.ShloMosaic Idealize.ShloMosaic.StableHlo Cert.ReferenceIdeal Cert.ReferenceIdeal.Facts₀

/-- The gates of a step from its hidden state. -/
def gV (x : A S100000x128) (b : IVec S100000 32) (wi : A S512x256) (wh : A S512x128) (bi bh : A S512) (h : A S512x128) : A S512x512 :=
  gateV wi wh bi bh h (readV x b (cntV b) (memV b) h) h

/-- The hidden and the cell state after `n` steps. -/
def stV (x : A S100000x128) (b : IVec S100000 32) (wi : A S512x256) (wh : A S512x128) (bi bh : A S512) : ℕ → A S512x128 × A S512x128
  | 0 => (numR 0x00000000#32, numR 0x00000000#32)
  | n + 1 =>
    let s := stV x b wi wh bi bh n
    (hV (gV x b wi wh bi bh s.1) (cV (gV x b wi wh bi bh s.1) s.2), cV (gV x b wi wh bi bh s.1) s.2)

/-- The result: the last hidden state beside the last readout. -/
def resV (x : A S100000x128) (b : IVec S100000 32) (wi : A S512x256) (wh : A S512x128) (bi bh : A S512) : A S512x256 :=
  concatenate S512x256 1 [⟨S512x128, (stV x b wi wh bi bh 4).1⟩, ⟨S512x128, readV x b (cntV b) (memV b) (stV x b wi wh bi bh 3).1⟩]
    concatenates_S512x128_S512x128_S512x256_d1

/-- Running a line from position `n` on is running `k` operations of it and then the rest. -/
theorem after_piece (l : List (HloOp τ sig (Elt Ideal))) (n k : ℕ) (W : Vl) :
    after (l.drop n) W = after (l.drop (n + k)) (after ((l.drop n).take k) W) := by
  have h : ∀ (l₁ l₂ : List (HloOp τ sig (Elt Ideal))) (V : Vl), after (l₁ ++ l₂) V = after l₂ (after l₁ V) := by
    intro l₁
    induction l₁ with
    | nil => intro _ _; rfl
    | cons op l ih => intro l₂ V; exact ih _ _
  rw [← h, ← List.drop_drop, List.take_append_drop]

variable (x : A S100000x128) (b : IVec S100000 32) (wi : A S512x256) (wh : A S512x128) (bi bh : A S512)

/-- The contents hold the arguments, the counts and the membership. -/
structure Given (W : Vl) : Prop where
  cnt : at' W main_v3 = cntV b
  mem : at' W main_v7 = memV b
  x : at' W main_arg0 = x
  b : at' W main_arg1 = b
  wi : at' W main_arg2 = wi
  wh : at' W main_arg3 = wh
  bi : at' W main_arg4 = bi
  bh : at' W main_arg5 = bh

variable {x b wi wh bi bh}

theorem Given.same {W W' : Vl} (h : Given x b wi wh bi bh W) (s : Same W' W) : Given x b wi wh bi bh W' :=
  ⟨s.cnt.trans h.cnt, s.mem.trans h.mem, s.x.trans h.x, s.b.trans h.b, s.wi.trans h.wi, s.wh.trans h.wh, s.bi.trans h.bi, s.bh.trans h.bh⟩

/-- The contents step `k` starts from. -/
structure Begin (x : A S100000x128) (b : IVec S100000 32) (wi : A S512x256) (wh : A S512x128) (bi bh : A S512) (k : Fin 4) (W : Vl) : Prop where
  given : Given x b wi wh bi bh W
  q : qAt W k = (stV x b wi wh bi bh k.val).1
  h : hAt W k = (stV x b wi wh bi bh k.val).1
  c : cAt W k = (stV x b wi wh bi bh k.val).2

/-- The contents step `k` ends with. -/
structure End (x : A S100000x128) (b : IVec S100000 32) (wi : A S512x256) (wh : A S512x128) (bi bh : A S512) (k : Fin 4) (W : Vl) : Prop where
  given : Given x b wi wh bi bh W
  h : hOf W k = (stV x b wi wh bi bh (k.val + 1)).1
  c : cOf W k = (stV x b wi wh bi bh (k.val + 1)).2
  r : rOf W k = readV x b (cntV b) (memV b) (stV x b wi wh bi bh k.val).1

/-- A part before the last keeps the start of the step. -/
theorem Begin.part {k : Fin 4} {W : Vl} (h : Begin x b wi wh bi bh k W) (p : Fin 5) : Begin x b wi wh bi bh k (after (seg p.castSucc k) W) :=
  ⟨h.given.same (same W p.castSucc k), (keep W p k).1.trans h.q, (keep W p k).2.1.trans h.h, (keep W p k).2.2.trans h.c⟩

/-- One step. -/
theorem step_end (k : Fin 4) (W : Vl) (h0 : Begin x b wi wh bi bh k W) :
    End x b wi wh bi bh k (after (seg 5 k) (after (seg 4 k) (after (seg 3 k) (after (seg 2 k) (after (seg 1 k) (after (seg 0 k) W)))))) := by
  have e1 := scores W k
  have h1 : Begin x b wi wh bi bh k _ := h0.part 0
  rw [h0.given.x, h0.given.b, h0.q] at e1
  change Begin x b wi wh bi bh k (after (seg 0 k) W) at h1
  generalize after (seg 0 k) W = W1 at *
  have e2 := raws W1 k
  have k2 := (keepE W1 k).1
  have h2 : Begin x b wi wh bi bh k (after (seg 1 k) W1) := h1.part 1
  rw [h1.given.mem, e1] at e2
  rw [e1] at k2
  generalize after (seg 1 k) W1 = W2 at *
  have e3 := maxes W2 k
  have k3 := (keepE W2 k).2
  have h3 : Begin x b wi wh bi bh k (after (seg 2 k) W2) := h2.part 2
  rw [e2] at e3
  rw [k2] at k3
  generalize after (seg 2 k) W2 = W3 at *
  have e4 := exps W3 k
  have h4 : Begin x b wi wh bi bh k (after (seg 3 k) W3) := h3.part 3
  rw [h3.given.b, e3, k3] at e4
  generalize after (seg 3 k) W3 = W4 at *
  have e5 := reads W4 k
  have h5 : Begin x b wi wh bi bh k (after (seg 4 k) W4) := h4.part 4
  rw [h4.given.x, h4.given.b, h4.given.cnt, e4] at e5
  change _ = readV x b (cntV b) (memV b) _ at e5
  generalize after (seg 4 k) W4 = W5 at *
  have hg : gOf W5 k = gV x b wi wh bi bh (stV x b wi wh bi bh k.val).1 := by
    rw [gOf, h5.given.wi, h5.given.wh, h5.given.bi, h5.given.bh, h5.q, h5.h, e5]; rfl
  refine ⟨h5.given.same (same W5 5 k), ?_, ?_, (keepB W5 k).trans e5⟩
  · rw [hidden, hg, h5.c]; rfl
  · rw [cell, hg, h5.c]; rfl

/-- The end of a step is the start of the next. -/
theorem next_begin : ∀ (k : Fin 3) (W : Vl), End x b wi wh bi bh k.castSucc W → Begin x b wi wh bi bh k.succ W := by
  intro k W h
  have e1 : qAt W k.succ = hOf W k.castSucc := by fin_cases k <;> rfl
  have e2 : hAt W k.succ = hOf W k.castSucc := by fin_cases k <;> rfl
  have e3 : cAt W k.succ = cOf W k.castSucc := by fin_cases k <;> rfl
  exact ⟨h.given, e1.trans h.h, e2.trans h.h, e3.trans h.c⟩

/-- A step of the line from its start. -/
theorem line_step (k : Fin 4) (W : Vl) :
    after (line.1.drop (18 + 115 * k.val)) W = after (line.1.drop (18 + 115 * (k.val + 1)))
      (after (seg 5 k) (after (seg 4 k) (after (seg 3 k) (after (seg 2 k) (after (seg 1 k) (after (seg 0 k) W)))))) := by
  have e : ∀ (a n c : ℕ) (V : Vl), a + n = c → after (line.1.drop (a + 115 * k.val)) V = after (line.1.drop (c + 115 * k.val)) (after (part a n k.val) V) := by
    intro a n c V h
    rw [after_piece _ _ n, show a + 115 * k.val + n = c + 115 * k.val by omega]
  rw [e 18 12 30 _ rfl, e 30 8 38 _ rfl, e 38 11 49 _ rfl, e 49 11 60 _ rfl, e 60 27 87 _ rfl, e 87 46 133 _ rfl,
    show 18 + 115 * (k.val + 1) = 133 + 115 * k.val by omega]
  rfl

/-- The result of the line. -/
theorem line_result (V : Vl) : at' (after line.1 V) main_v368 =
    resV (at' V main_arg0) (at' V main_arg1) (at' V main_arg2) (at' V main_arg3) (at' V main_arg4) (at' V main_arg5) := by
  have h0 : Begin (at' V main_arg0) (at' V main_arg1) (at' V main_arg2) (at' V main_arg3) (at' V main_arg4) (at' V main_arg5) 0 (after pre V) := by
    obtain ⟨a0, a1, a2, a3, a4, a5⟩ := pre_args V
    obtain ⟨z0, z1, z2⟩ := pre_zero V
    exact ⟨⟨(pre_cnt V), (pre_mem V), a0, a1, a2, a3, a4, a5⟩, z0, z1, z2⟩
  have hl : after line.1 V = after (line.1.drop (18 + 115 * (0 : Fin 4).val)) (after pre V) := by
    have h := after_piece line.1 0 18 V
    rw [List.drop_zero] at h
    rw [show 18 + 115 * (0 : Fin 4).val = 0 + 18 from rfl]
    exact h
  rw [hl, line_step 0]
  have h1 := next_begin 0 _ (step_end 0 _ h0)
  have h2 := next_begin 1 _ (step_end 1 _ h1)
  have h3 := next_begin 2 _ (step_end 2 _ h2)
  have h4 := step_end 3 _ h3
  refine (congrArg (fun W => at' W main_v368) (line_step 1 _)).trans ?_
  refine (congrArg (fun W => at' W main_v368) (line_step 2 _)).trans ?_
  refine (congrArg (fun W => at' W main_v368) (line_step 3 _)).trans ?_
  refine (last _).trans ?_
  have hh := h4.h
  have hr := h4.r
  unfold resV
  exact congrArg₂ (fun (p q : A S512x128) => concatenate S512x256 1 [⟨S512x128, p⟩, ⟨S512x128, q⟩] concatenates_S512x128_S512x128_S512x256_d1) hh hr

end Cert.Proof.R
end
-- ==== Proof.RefVal.lean ====
module

public import proofs.«01_k».proof.Proof.RefStep
public import proofs.«01_k».proof.Proof.Model
public import Idealize.ShloMosaic.Lib.Pointwise
public import Idealize.ShloMosaic.Lib.Routing.Ops
public import Idealize.ShloMosaic.Lib.Routing.OpsSet
public import Idealize.ShloMosaic.Lib.Routing.OpsPair

@[expose] public section

set_option maxRecDepth 16384

noncomputable section

/-! ## One step of the reference, entry by entry -/

namespace Cert.Proof.R

open Idealize.ShloMosaic Idealize.ShloMosaic.StableHlo Cert.ReferenceIdeal Cert.ReferenceIdeal.Facts₀ Cert.Proof

/-- The positions of a vector, and of a matrix, are their coordinates. -/
theorem ix1_bij (n : ℕ) : Function.Bijective (fun j : Fin n => (ix1 j : (⟨1, ![n]⟩ : Shape).Idx)) :=
  ⟨fun i j h => congrFun h 0, fun k => ⟨k 0, funext fun a => by obtain rfl : a = 0 := Subsingleton.elim _ _; rfl⟩⟩

theorem ix2_bij (n m : ℕ) : Function.Bijective (fun p : Fin n × Fin m => (ix2 p.1 p.2 : (⟨2, ![n, m]⟩ : Shape).Idx)) :=
  ⟨fun i j h => Prod.ext (congrFun h 0) (congrFun h 1), fun k => ⟨(k 0, k 1), funext fun a => by fin_cases a <;> rfl⟩⟩

variable (b : IVec S100000 32) (grp : Fin 100000 → ℕ)

/-- The graph numbers are `grp`, each below 512. -/
structure IsGrp : Prop where
  lt : ∀ j, grp j < 512
  eq : ∀ j, b (ix1 j) = BitVec.ofNat 32 (grp j)

variable {b grp}

theorem sIdx_at (H : IsGrp b grp) (j : Fin 100000) : sIdx b (ix2 j 0) = BitVec.ofNat 32 (grp j) := by
  unfold sIdx
  pointwise
  exact H.eq j

theorem gIdx_at (H : IsGrp b grp) (j : Fin 100000) : gIdx b (ix2 j 0) = BitVec.ofNat 32 (grp j) := by
  have h := H.lt j
  have e := H.eq j
  unfold gIdx
  pointwise
  have hn : (BitVec.ofNat 32 (grp j)).slt 0#32 = false := by
    rw [BitVec.slt, StableHlo.Predicate.toInt_ofNat_small _ (by omega)]
    simp
  rw [e]
  simp [IntOp.cmpi, hn, Scalar.select]

/-- A row taken for a node is its graph's. -/
theorem take_row (H : IsGrp b grp) (q : A S512x128) (j : Fin 100000) (d : Fin 128) :
    Host.gather gather_S512x128_S100000x1_S100000x128_1_0_n_n_0_1_1128 q (gIdx b) (ix2 j d) = q (ix2 ⟨grp j, H.lt j⟩ d) :=
  Routing.gather_row _ rfl rfl rfl rfl rfl q (gIdx b) j d ⟨grp j, H.lt j⟩ (gIdx_at H j) (by norm_num)

/-- An entry taken for a node is its graph's. -/
theorem take_one (H : IsGrp b grp) (m : A S512) (j : Fin 100000) :
    Host.gather gather_S512_S100000x1_S100000_n_0_n_n_0_1_1 m (gIdx b) (ix1 j) = m (ix1 ⟨grp j, H.lt j⟩) :=
  Routing.gather_take1 _ rfl rfl rfl rfl m (gIdx b) j ⟨grp j, H.lt j⟩ (gIdx_at H j) (by norm_num)

/-- A node's entry lands at its graph. -/
theorem lands_one (H : IsGrp b grp) (j : Fin 100000) (g : Fin 512) :
    scatter_S512_S100000x1_S100000_n_0_0_1.resultIdx? (ix1 j) (sIdx b) = some (ix1 g) ↔ grp j = g.val := by
  have h := H.lt j
  rw [Routing.resultIdx?_eq_some]
  have hs : scatter_S512_S100000x1_S100000_n_0_0_1.start (ix1 j) (sIdx b) 0 = (grp j : Int) := by
    have : scatter_S512_S100000x1_S100000_n_0_0_1.start (ix1 j) (sIdx b) 0 = (sIdx b (ix2 j 0)).toInt := by
      unfold ScatterDims.start
      rw [dif_pos (by decide)]
      refine congrArg (fun k => (sIdx b k).toInt) ?_
      funext a
      fin_cases a <;> rfl
    rw [this, sIdx_at H, StableHlo.Predicate.toInt_ofNat_small _ (by omega)]
  have hw : scatter_S512_S100000x1_S100000_n_0_0_1.window (ix1 j) 0 = 0 := rfl
  constructor
  · intro q
    have := q 0
    rw [hs, hw] at this
    change _ = (g.val : Int) at this
    omega
  · intro q a
    obtain rfl : a = 0 := Subsingleton.elim _ _
    rw [hs, hw]
    change _ = (g.val : Int)
    omega

/-- A node's row lands at its graph, lane by lane. -/
theorem lands_row (H : IsGrp b grp) (j : Fin 100000) (d e : Fin 128) (g : Fin 512) :
    scatter_S512x128_S100000x1_S100000x128_1_0_0_1.resultIdx? (ix2 j d) (sIdx b) = some (ix2 g e) ↔ grp j = g.val ∧ d = e := by
  have h := H.lt j
  rw [Routing.resultIdx?_eq_some]
  have hs : scatter_S512x128_S100000x1_S100000x128_1_0_0_1.start (ix2 j d) (sIdx b) 0 = (grp j : Int) := by
    have : scatter_S512x128_S100000x1_S100000x128_1_0_0_1.start (ix2 j d) (sIdx b) 0 = (sIdx b (ix2 j 0)).toInt := by
      unfold ScatterDims.start
      rw [dif_pos (by decide)]
      refine congrArg (fun k => (sIdx b k).toInt) ?_
      funext a
      fin_cases a <;> rfl
    rw [this, sIdx_at H, StableHlo.Predicate.toInt_ofNat_small _ (by omega)]
  have hs1 : scatter_S512x128_S100000x1_S100000x128_1_0_0_1.start (ix2 j d) (sIdx b) 1 = 0 := by
    unfold ScatterDims.start
    rw [dif_neg (by decide)]
  have hw : scatter_S512x128_S100000x1_S100000x128_1_0_0_1.window (ix2 j d) 0 = 0 := rfl
  have hw1 : scatter_S512x128_S100000x1_S100000x128_1_0_0_1.window (ix2 j d) 1 = d.val := rfl
  constructor
  · intro q
    have q0 := q 0
    have q1 := q 1
    rw [hs, hw] at q0
    rw [hs1, hw1] at q1
    change _ = (g.val : Int) at q0
    change _ = (e.val : Int) at q1
    exact ⟨by omega, Fin.ext (by omega)⟩
  · rintro ⟨q, rfl⟩ a
    match a with
    | ⟨0, _⟩ =>
      change scatter_S512x128_S100000x1_S100000x128_1_0_0_1.start (ix2 j d) (sIdx b) 0 + (scatter_S512x128_S100000x1_S100000x128_1_0_0_1.window (ix2 j d) 0 : Int) = (g.val : Int)
      rw [hs, hw]; omega
    | ⟨1, _⟩ =>
      change scatter_S512x128_S100000x1_S100000x128_1_0_0_1.start (ix2 j d) (sIdx b) 1 + (scatter_S512x128_S100000x1_S100000x128_1_0_0_1.window (ix2 j d) 1 : Int) = (d.val : Int)
      rw [hs1, hw1]; omega

/-- The sum of the nodes' entries over a graph. -/
theorem sum_one (H : IsGrp b grp) (u : A S100000) (g : Fin 512) :
    Host.scatterAdd scatter_S512_S100000x1_S100000_n_0_0_1 (numS 0x00000000#32) (sIdx b) u (ix1 g) = ∑ j, if grp j = g.val then u (ix1 j) else 0 := by
  change Ideal.hostScatterAdd _ _ _ _ _ = _
  unfold Ideal.hostScatterAdd
  rw [Finset.sum_filter]
  have hz : (numS 0x00000000#32 (ix1 g) : EReal) = 0 := by
    unfold numS
    pointwise
  rw [hz, zero_add, ← (ix1_bij 100000).sum_comp]
  exact Finset.sum_congr rfl fun j _ => if_congr (lands_one H j g) rfl rfl

/-- The sum of the nodes' rows over a graph. -/
theorem sum_row (H : IsGrp b grp) (u : A S100000x128) (g : Fin 512) (d : Fin 128) :
    Host.scatterAdd scatter_S512x128_S100000x1_S100000x128_1_0_0_1 (numR 0x00000000#32) (sIdx b) u (ix2 g d) = ∑ j, if grp j = g.val then u (ix2 j d) else 0 := by
  change Ideal.hostScatterAdd _ _ _ _ _ = _
  unfold Ideal.hostScatterAdd
  rw [Finset.sum_filter]
  have hz : (numR 0x00000000#32 (ix2 g d) : EReal) = 0 := by
    unfold numR
    pointwise
  rw [hz, zero_add, ← (ix2_bij 100000 128).sum_comp, Fintype.sum_prod_type]
  refine Finset.sum_congr rfl fun j _ => ?_
  by_cases hj : grp j = g.val
  · rw [if_pos hj, Finset.sum_eq_single d]
    · rw [if_pos ((lands_row H j d d g).2 ⟨hj, rfl⟩)]
    · intro e _ he
      rw [if_neg fun h => he ((lands_row H j e d g).1 h).2]
    · intro h; exact absurd (Finset.mem_univ _) h
  · rw [if_neg hj]
    exact Finset.sum_eq_zero fun e _ => if_neg fun h => hj ((lands_row H j e d g).1 h).1

/-- The maximum in use is a number, whatever comes. -/
theorem maxOf_real (raw : A S512) (g : Fin 512) : ∃ m : ℝ, maxOf raw (ix1 g) = (m : EReal) := by
  have e : maxOf raw (ix1 g) = if ⊥ < raw (ix1 g) ∧ raw (ix1 g) < ⊤ then raw (ix1 g) else 0 := by
    unfold maxOf numS
    pointwise
    have h1 : Ideal.ofBits .f32 0xFF800000#32 = ⊥ := by unfold Ideal.ofBits Ideal.ieee; simp
    have h2 : Ideal.ofBits .f32 0x7F800000#32 = ⊤ := by unfold Ideal.ofBits Ideal.ieee; simp
    have h3 : (id (constant S_ FTy.f32 0x00000000#32 : A S_) ix0 : EReal) = 0 := by
      show (constant S_ FTy.f32 0x00000000#32 : A S_) ix0 = (0 : EReal)
      pointwise
    rw [h1, h2, h3]
    by_cases ha : ⊥ < raw (ix1 g) <;> by_cases hb : raw (ix1 g) < ⊤ <;> simp [ha, hb, IntOp.andi, Scalar.select]
  rw [e]
  split
  · next h => exact ⟨_, (EReal.coe_toReal h.2.ne h.1.ne').symm⟩
  · exact ⟨0, rfl⟩

theorem cntV_at (H : IsGrp b grp) (g : Fin 512) : cntV b (ix1 g) = ((∑ j, if grp j = g.val then 1 else 0 : ℝ) : EReal) := by
  unfold cntV
  rw [sum_one H, Soft.coe_sum]
  refine Finset.sum_congr rfl fun j _ => ?_
  have h1 : (broadcastInDim S100000 ![] bcast_S_S100000 (constant S_ .f32 0x3F800000#32) : A S100000) (ix1 j) = (1 : EReal) := by
    pointwise
  rw [h1]
  split <;> simp

variable {x : A S100000x128} {X : Fin 100000 → Fin 128 → ℝ} {Q : ℕ → Fin 128 → ℝ} {q : A S512x128}

theorem eV_at (H : IsGrp b grp) (hx : ∀ j d, x (ix2 j d) = (X j d : EReal)) (hq : ∀ g : Fin 512, ∀ d, q (ix2 g d) = (Q g.val d : EReal)) (j : Fin 100000) :
    eV x b q (ix1 j) = ((∑ d, Q (grp j) d * X j d : ℝ) : EReal) := by
  unfold eV
  pointwise
  rw [Soft.coe_sum]
  refine Finset.sum_congr rfl fun d _ => ?_
  rw [take_row H, hx, hq, ← EReal.coe_mul, mul_comm]

/-- A gate. -/
theorem gateV_at (wi : A S512x256) (wh : A S512x128) (bi bh : A S512) (q r h : A S512x128) (Q R Y : ℕ → Fin 128 → ℝ)
    (hq : ∀ g : Fin 512, ∀ d, q (ix2 g d) = (Q g.val d : EReal)) (hr : ∀ g : Fin 512, ∀ d, r (ix2 g d) = (R g.val d : EReal))
    (hh : ∀ g : Fin 512, ∀ d, h (ix2 g d) = (Y g.val d : EReal)) (g : Fin 512) (k : Fin 512) :
    gateV wi wh bi bh q r h (ix2 g k) =
      Model.gate (fun k x => wi (ix2 k x)) (fun k x => wh (ix2 k x)) (fun k => bi (ix1 k) + bh (ix1 k)) Q R Y g.val k := by
  unfold gateV Model.gate
  pointwise
  simp only [hq, hr, hh]
  exact add_assoc (G := EReal) _ _ _

/-- The written-out logistic function is the logistic function. -/
theorem sigV_at (y : A S512x128) (g : Fin 512) (d : Fin 128) : sigV y (ix2 g d) = Ideal.logistic (y (ix2 g d)) := by
  unfold sigV numR
  pointwise
  rfl

theorem cV_at (G : A S512x512) (c : A S512x128) (g : Fin 512) (d : Fin 128) :
    cV G c (ix2 g d) = Ideal.logistic (G (ix2 g ⟨128 + d.val, by omega⟩)) * c (ix2 g d) + Ideal.logistic (G (ix2 g ⟨d.val, by omega⟩)) * Ideal.tanh (G (ix2 g ⟨256 + d.val, by omega⟩)) := by
  unfold cV
  pointwise
  rw [sigV_at, sigV_at]
  pointwise

theorem hV_at (G : A S512x512) (c : A S512x128) (g : Fin 512) (d : Fin 128) :
    hV G c (ix2 g d) = Ideal.logistic (G (ix2 g ⟨384 + d.val, by omega⟩)) * Ideal.tanh (c (ix2 g d)) := by
  unfold hV
  pointwise
  rw [sigV_at]
  pointwise

/-- A node's weight: its exponential over its graph's sum of exponentials. -/
theorem attV_at (H : IsGrp b grp) (e : A S100000) (E : Fin 100000 → ℝ) (he : ∀ j, e (ix1 j) = (E j : EReal)) (raw : A S512) (j : Fin 100000) :
    attV b (exV b e (maxOf raw)) (ix1 j) = ((Real.exp (E j) / ∑ k, if grp k = grp j then Real.exp (E k) else 0 : ℝ) : EReal) := by
  choose m hm using maxOf_real raw
  have hex : ∀ k, exV b e (maxOf raw) (ix1 k) = ((Real.exp (E k - m ⟨grp k, H.lt k⟩) : ℝ) : EReal) := by
    intro k
    unfold exV
    pointwise
    rw [take_one H, hm, he, ← EReal.coe_sub, Ideal.exp_coe]
  have hden : denV b (exV b e (maxOf raw)) (ix1 ⟨grp j, H.lt j⟩) = (((∑ k, if grp k = grp j then Real.exp (E k) else 0) * Real.exp (-m ⟨grp j, H.lt j⟩) : ℝ) : EReal) := by
    unfold denV
    rw [sum_one H, Finset.sum_mul, Soft.coe_sum]
    refine Finset.sum_congr rfl fun k _ => ?_
    by_cases hk : grp k = grp j
    · rw [if_pos hk, if_pos hk, hex, ← Real.exp_add, sub_eq_add_neg]
      simp only [hk]
    · rw [if_neg hk, if_neg hk, zero_mul, EReal.coe_zero]
  have hpos : 0 < ∑ k, if grp k = grp j then Real.exp (E k) else 0 := by
    refine Finset.sum_pos' (fun k _ => by split <;> [exact (Real.exp_pos _).le; exact le_refl _]) ⟨j, Finset.mem_univ _, ?_⟩
    rw [if_pos rfl]
    exact Real.exp_pos _
  unfold attV
  pointwise
  rw [take_one H, hden, hex, Model.div_real _ _ (mul_pos hpos (Real.exp_pos _)).ne', sub_eq_add_neg, Real.exp_add, mul_div_mul_right _ _ (Real.exp_pos _).ne']

/-- The readout. -/
theorem readV_at (H : IsGrp b grp) (hx : ∀ j d, x (ix2 j d) = (X j d : EReal)) (hq : ∀ g : Fin 512, ∀ d, q (ix2 g d) = (Q g.val d : EReal))
    (mem : IVec S512x100000 1) (g : Fin 512) (d : Fin 128) :
    readV x b (cntV b) mem q (ix2 g d) =
      (((∑ j, (if grp j = g.val then Real.exp (∑ d, Q g.val d * X j d) else 0) * X j d) / (∑ j, if grp j = g.val then Real.exp (∑ d, Q g.val d * X j d) else 0)
        / max (∑ j, if grp j = g.val then 1 else 0) 1 : ℝ) : EReal) := by
  have hn : max (∑ j, if grp j = g.val then (1 : ℝ) else 0) 1 ≠ 0 := (lt_of_lt_of_le one_pos (le_max_right _ _)).ne'
  unfold readV rdV numS
  pointwise
  rw [sum_row H, cntV_at H, ← EReal.coe_one, ← EReal.coe_strictMono.monotone.map_max]
  have key : ∀ (S : EReal) (s C : ℝ), C ≠ 0 → S = (s : EReal) → Ideal.div S (C : EReal) = ((s / C : ℝ) : EReal) := by
    intro S s C hC h
    rw [h, Model.div_real _ _ hC]
  refine key _ _ _ hn ?_
  rw [Finset.sum_div, Soft.coe_sum]
  refine Finset.sum_congr rfl fun j _ => ?_
  by_cases hj : grp j = g.val
  · rw [if_pos hj, if_pos hj]
    pointwise
    rw [attV_at H _ _ (eV_at H hx hq), hx, ← EReal.coe_mul, hj, div_mul_eq_mul_div]
    refine congrArg (fun z : ℝ => ((Real.exp _ * X j d / z : ℝ) : EReal)) (Finset.sum_congr rfl fun k _ => ?_)
    split
    · next h => rw [h]
    · rfl
  · rw [if_neg hj, if_neg hj, zero_mul, zero_div, EReal.coe_zero]

/-! ### In tiles -/

/-- Node `i` of tile `t`. -/
def node (t : Fin 50) (i : Fin 2000) : Fin 100000 := ⟨t.val * 2000 + i.val, by omega⟩

/-- A sum over all nodes, tile by tile. -/
theorem sum_nodes (f : Fin 100000 → ℝ) : ∑ j, f j = ∑ t, ∑ i, f (node t i) := by
  have hb : Function.Bijective (fun p : Fin 50 × Fin 2000 => node p.1 p.2) := by
    constructor
    · rintro ⟨t, i⟩ ⟨t', i'⟩ h
      have h := congrArg Fin.val h
      dsimp only [node] at h
      have e : t.val = t'.val := by omega
      exact Prod.ext (Fin.ext e) (Fin.ext (by dsimp only; omega))
    · intro j
      exact ⟨(⟨j.val / 2000, by omega⟩, ⟨j.val % 2000, by omega⟩), Fin.ext (by dsimp only [node]; omega)⟩
  rw [← hb.sum_comp, Fintype.sum_prod_type]

/-- The readout is the model's. -/
theorem readV_model (H : IsGrp b grp) (hx : ∀ j d, x (ix2 j d) = (X j d : EReal)) (hq : ∀ g : Fin 512, ∀ d, q (ix2 g d) = (Q g.val d : EReal))
    (mem : IVec S512x100000 1) (g : Fin 512) (d : Fin 128) :
    readV x b (cntV b) mem q (ix2 g d) = (Model.rd (fun t i => grp (node t i)) (fun t i => X (node t i)) Q g.val d : EReal) := by
  rw [readV_at H hx hq, sum_nodes, sum_nodes, sum_nodes]
  rfl

end Cert.Proof.R
end
-- ==== Proof.RefModel.lean ====
module

public import proofs.«01_k».proof.Proof.RefEnd
public import proofs.«01_k».proof.Proof.RefVal

@[expose] public section

set_option maxRecDepth 16384

noncomputable section

/-! ## The reference returns what the model says -/

namespace Cert.Proof.R

open Idealize.ShloMosaic Idealize.ShloMosaic.StableHlo Cert.ReferenceIdeal Cert.ReferenceIdeal.Facts₀ Cert.Proof

variable {b : IVec S100000 32} {grp : Fin 100000 → ℕ} {x : A S100000x128} {X : Fin 100000 → Fin 128 → ℝ}

/-- The model's state after `n` steps, for the reference's arguments. -/
abbrev modelAt (grp : Fin 100000 → ℕ) (X : Fin 100000 → Fin 128 → ℝ) (wi : A S512x256) (wh : A S512x128) (bi bh : A S512) (n : ℕ) : Model.Hid :=
  Model.after (fun t i => grp (node t i)) (fun t i => X (node t i)) (fun k x => wi (ix2 k x)) (fun k x => wh (ix2 k x)) (fun k => bi (ix1 k) + bh (ix1 k)) n

/-- The states of the reference are the model's. -/
theorem stV_at (H : IsGrp b grp) (hx : ∀ j d, x (ix2 j d) = (X j d : EReal)) (wi : A S512x256) (wh : A S512x128) (bi bh : A S512) :
    ∀ (n : ℕ) (g : Fin 512) (d : Fin 128), (stV x b wi wh bi bh n).1 (ix2 g d) = ((modelAt grp X wi wh bi bh n).h g.val d : EReal)
      ∧ (stV x b wi wh bi bh n).2 (ix2 g d) = (modelAt grp X wi wh bi bh n).c g.val d := by
  intro n
  induction n with
  | zero =>
    intro g d
    have hz : (numR 0x00000000#32 (ix2 g d) : EReal) = 0 := by
      unfold numR
      pointwise
    exact ⟨hz, hz⟩
  | succ n ih =>
    have hh : ∀ g : Fin 512, ∀ d, (stV x b wi wh bi bh n).1 (ix2 g d) = ((modelAt grp X wi wh bi bh n).h g.val d : EReal) := fun g d => (ih g d).1
    have hg : ∀ g k, gV x b wi wh bi bh (stV x b wi wh bi bh n).1 (ix2 g k) =
        Model.gateOf (fun t i => grp (node t i)) (fun t i => X (node t i)) (fun k x => wi (ix2 k x)) (fun k x => wh (ix2 k x)) (fun k => bi (ix1 k) + bh (ix1 k))
          (modelAt grp X wi wh bi bh n) g.val k := by
      intro g k
      unfold gV
      rw [gateV_at wi wh bi bh _ _ _ _ _ _ hh (fun g d => readV_model H hx hh _ g d) hh]
      rfl
    have hc : ∀ g d, (stV x b wi wh bi bh (n + 1)).2 (ix2 g d) = (modelAt grp X wi wh bi bh (n + 1)).c g.val d := by
      intro g d
      show cV _ _ (ix2 g d) = _
      rw [cV_at, hg, hg, hg, (ih g d).2]
      rfl
    intro g d
    refine ⟨?_, hc g d⟩
    show hV _ (stV x b wi wh bi bh (n + 1)).2 (ix2 g d) = ((Model.nextH _ _ _ _ _ _ g.val d : ℝ) : EReal)
    rw [hV_at, hg, hc, Model.coe_nextH]
    rfl

/-- The result is the model's. -/
theorem resV_at (H : IsGrp b grp) (hx : ∀ j d, x (ix2 j d) = (X j d : EReal)) (wi : A S512x256) (wh : A S512x128) (bi bh : A S512) (g : Fin 512) (k : Fin 256) :
    resV x b wi wh bi bh (ix2 g k) = Model.out (fun t i => grp (node t i)) (fun t i => X (node t i)) (fun k x => wi (ix2 k x)) (fun k x => wh (ix2 k x))
      (fun k => bi (ix1 k) + bh (ix1 k)) g.val k := by
  unfold resV Model.out
  by_cases hk : k.val < 128
  · rw [dif_pos hk, ← (stV_at H hx wi wh bi bh 4 g ⟨k.val, hk⟩).1]
    obtain ⟨d, rfl⟩ : ∃ d : Fin 128, k = ⟨d.val, Nat.lt_trans d.isLt (by norm_num)⟩ := ⟨⟨k.val, hk⟩, rfl⟩
    pointwise
  · rw [dif_neg hk, ← readV_model H hx (fun g d => (stV_at H hx wi wh bi bh 3 g d).1) (memV b) g]
    obtain ⟨d, rfl⟩ : ∃ d : Fin 128, k = ⟨128 + d.val, Nat.add_lt_add_left d.isLt 128⟩ := ⟨⟨k.val - 128, by omega⟩, Fin.ext (by dsimp only; omega)⟩
    pointwise

end Cert.Proof.R
end
-- ==== Proof.Value.lean ====
module

public import proofs.«01_k».proof.Proof.Loop
public import proofs.«01_k».proof.Proof.RefModel
public import proofs.«01_k».proof.Proof.Range
public import Idealize.ShloMosaic.Lib.Pipeline.ValueKit

@[expose] public section

set_option maxRecDepth 16384

noncomputable section

/-! ## The kernel's result array, from its arguments -/

namespace Cert.Proof.K

open Cert.KernelIdeal Cert.KernelIdeal.Gen
open Idealize.ShloMosaic Idealize.ShloMosaic.TcCoe

section
variable {F : FTy → Type} [FloatOps F]
variable (m : (ℓ : Loc nD τ sig) → Buf (Elt F) ℓ) (c : Dev nD) (t : Fin cfg0.N)

/-- The nodes' rows the kernel gets are the argument, re-laid in tiles. -/
theorem X3_eq : X3 m c t = shapeCast S50x2000x128 (m ((c.tc : Thread nD τ).loc main_arg0)) shapeCasts_S100000x128_S50x2000x128 := by
  have hV : V m c main_call0_v0 = shapeCast S50x2000x128 (m ((c.tc : Thread nD τ).loc main_arg0)) shapeCasts_S100000x128_S50x2000x128 := rfl
  rw [← hV]
  have hz : (fun a => win0_0.index t a * main_call0_v0.ty.shape.size a) = fun _ => 0 := funext fun a => by fin_cases a <;> rfl
  exact Memref.read_access_unit_zero (Elt F) main_call0_v0 hz _ _

/-- The weights the kernel gets are the arguments. -/
theorem Wi_eq : Wi m c t = m ((c.tc : Thread nD τ).loc main_arg2) := by
  have hV : V m c main_arg2 = m ((c.tc : Thread nD τ).loc main_arg2) := rfl
  rw [← hV]
  have hz : (fun a => win0_2.index t a * main_arg2.ty.shape.size a) = fun _ => 0 := funext fun a => by fin_cases a <;> rfl
  exact Memref.read_access_unit_zero (Elt F) main_arg2 hz _ _

theorem Wh_eq : Wh m c t = m ((c.tc : Thread nD τ).loc main_arg3) := by
  have hV : V m c main_arg3 = m ((c.tc : Thread nD τ).loc main_arg3) := rfl
  rw [← hV]
  have hz : (fun a => win0_3.index t a * main_arg3.ty.shape.size a) = fun _ => 0 := funext fun a => by fin_cases a <;> rfl
  exact Memref.read_access_unit_zero (Elt F) main_arg3 hz _ _

/-- The bias row the kernel gets is the sum of the two biases. -/
theorem Bi_eq : Bi m c t = shapeCast S1x512 (addf (F := F) (φ := .f32) (s := S512) (m ((c.tc : Thread nD τ).loc main_arg4)) (m ((c.tc : Thread nD τ).loc main_arg5))) shapeCasts_S512_S1x512 := by
  have hV : V m c main_call0_v3 = shapeCast S1x512 (addf (F := F) (φ := .f32) (s := S512) (m ((c.tc : Thread nD τ).loc main_arg4)) (m ((c.tc : Thread nD τ).loc main_arg5))) shapeCasts_S512_S1x512 := rfl
  rw [← hV]
  have hz : (fun a => win0_4.index t a * main_call0_v3.ty.shape.size a) = fun _ => 0 := funext fun a => by fin_cases a <;> rfl
  exact Memref.read_access_unit_zero (Elt F) main_call0_v3 hz _ _

/-- The result array after the run is what the body leaves in its window. -/
theorem out_eq (hw : TilesAll m) : (dats m hw 0 c).arrAt 5 cfg0.N = outsAt m hw c t0_0 := by
  refine (dats m hw 0 c).arrAt_eq_of_after_last 5 t0_0 (by decide +kernel) _ fun j => ?_
  blk_simp
  rw [after0_5]

end

/-- Where the tile loop's trip `t` reads. -/
theorem off_rows : ∀ t : Fin k0_t2_loop.trips, k0_off5 t = ![t.val, 0, 0] ∧ k0_off6 t = ![t.val, 0, 0] := by
  decide +kernel

/-- A tile of the re-laid rows, and of the re-laid graph numbers, is the arguments at its nodes. -/
theorem xt_at (x : FVec Ideal S100000x128 .f32) (t : Fin k0_t2_loop.trips) (i : Fin 2000) (d : Fin 128) :
    xt (F := Ideal) (shapeCast S50x2000x128 x shapeCasts_S100000x128_S50x2000x128) t (ix3 0 i d) = x (ix2 (R.node t i) d) := by
  have e : xt (F := Ideal) (shapeCast S50x2000x128 x shapeCasts_S100000x128_S50x2000x128) t (ix3 0 i d)
      = (shapeCast S50x2000x128 x shapeCasts_S100000x128_S50x2000x128) (ix3 (t : Fin 50) i d) := by
    unfold xt VecWindow.window
    refine congrArg _ (funext fun a => Fin.ext ?_)
    have h := (off_rows t).1
    fin_cases a
    · show k0_off5 t 0 + 1 * 0 = t.val; rw [h]; rfl
    · show k0_off5 t 1 + 1 * i.val = i.val; rw [h]; show 0 + _ = _; omega
    · show k0_off5 t 2 + 1 * d.val = d.val; rw [h]; show 0 + _ = _; omega
  rw [e]
  pointwise
  rfl

theorem bt_at (b : IVec S100000 32) (t : Fin k0_t2_loop.trips) (i : Fin 2000) :
    bt (F := Ideal) (shapeCast S50x1x2000 b shapeCasts_S100000_S50x1x2000) t (ix3 0 0 i) = b (ix1 (R.node t i)) := by
  have e : bt (F := Ideal) (shapeCast S50x1x2000 b shapeCasts_S100000_S50x1x2000) t (ix3 0 0 i)
      = (shapeCast S50x1x2000 b shapeCasts_S100000_S50x1x2000) (ix3 (t : Fin 50) 0 i) := by
    unfold bt VecWindow.window
    refine congrArg _ (funext fun a => Fin.ext ?_)
    have h := (off_rows t).2
    fin_cases a
    · show k0_off6 t 0 + 1 * 0 = t.val; rw [h]; rfl
    · show k0_off6 t 1 + 1 * 0 = 0; rw [h]; rfl
    · show k0_off6 t 2 + 1 * i.val = i.val; rw [h]; show 0 + _ = _; omega
  rw [e]
  pointwise
  rfl

/-- The bias row at a gate. -/
theorem bias_at (p q : FVec Ideal S512 .f32) (k : Fin 512) :
    k0_pay85 (F := Ideal) (shapeCast S1x512 (addf p q) shapeCasts_S512_S1x512) (ix2 0 k) = (p (ix1 k) + q (ix1 k) : EReal) := by
  unfold k0_pay85
  pointwise

/-- The kernel's result is the reference's function of the arguments. -/
theorem out_value (m : (ℓ : Loc nD τ sig) → Buf (Elt Ideal) ℓ) (hw : TilesAll m) (c : Dev nD) (t : Fin cfg0.N)
    (hg : ∀ i, IsGraph ((m ((c.tc : Thread nD τ).loc main_arg1)) i))
    (hf : ∀ i, ∃ r : ℝ, @Eq EReal ((m ((c.tc : Thread nD τ).loc main_arg0)) i) (r : EReal)) :
    outsAt m hw c t = R.resV (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  choose X hX using hf
  have hx : ∀ (j : Fin 100000) (d : Fin 128), @Eq EReal ((m ((c.tc : Thread nD τ).loc main_arg0)) (ix2 j d)) (X (ix2 j d) : EReal) := fun j d => hX _
  have H : R.IsGrp (m ((c.tc : Thread nD τ).loc main_arg1)) (fun j => ((m ((c.tc : Thread nD τ).loc main_arg1)) (ix1 j)).toNat) :=
    ⟨fun j => (hg _).toNat_lt.1, fun j => by simp⟩
  have hH : Holds (fun (t : Fin k0_t2_loop.trips) i => ((m ((c.tc : Thread nD τ).loc main_arg1)) (ix1 (R.node t i))).toNat)
      (fun (t : Fin k0_t2_loop.trips) i d => X (ix2 (R.node t i) d)) (X3 m c t) (B3 m c t) := by
    rw [X3_eq, B3_eq]
    refine ⟨fun t i => tiles_graph _ hg t i, fun t i => ?_, fun t i d => ?_⟩
    · rw [bt_at]
    · rw [xt_at]; exact hX _
  funext j
  obtain ⟨⟨g, k⟩, rfl⟩ := (R.ix2_bij 512 256).surjective j
  show outV _ _ _ _ _ _ (ix2 g k) = _
  rw [outV_eq (hw c t) hH, R.resV_at H (X := fun j d => X (ix2 j d)) hx, Wi_eq, Wh_eq]
  refine congrArg (fun f => Model.out _ _ _ _ f g.val k) (funext fun k => ?_)
  rw [Bi_eq]
  exact bias_at _ _ k

end Cert.Proof.K
end
-- ==== Proof.Equal.lean ====
module

public import proofs.«01_k».proof.Proof.Frames
public import proofs.«01_k».proof.Proof.Value

@[expose] public section

set_option maxRecDepth 16384

noncomputable section

/-! ## The two programs end with one result -/

namespace Cert.Proof

open Idealize.ShloMosaic Idealize.SL.Sem

instance : Cert.Pre_finite_and_in_range.Facts := ⟨by decide, by decide, by decide, by decide, by decide⟩

/-- The printed predicate, read: every graph number lies in range and every entry of the rows is a real number. -/
theorem given_of_pre (x0 x1 x2 x3 x4 x5) (h : Cert.Pre_finite_and_in_range.fn (F := Ideal) x0 x1 x2 x3 x4 x5 = fun _ => 1#1) :
    (∀ i, K.IsGraph (x1 i)) ∧ ∀ i, ∃ r : ℝ, (x0 i : EReal) = r := by
  have h := congrFun h ix0
  obtain ⟨ha, hb⟩ := IntOp.andi_eq_one.1 h
  haveI : Subsingleton (Cert.Pre_finite_and_in_range.S_).Idx := ⟨fun i j => funext fun a => a.elim0⟩
  refine ⟨fun i => ?_, fun i => ?_⟩
  · have h' : IntOp.andi (IntOp.cmpi .sge (x1 i) 0#32) (IntOp.cmpi .slt (x1 i) 512#32) = 1#1 := Host.reduce_andi_all _ _ _ _ _ ha i
    obtain ⟨h0, h1⟩ := IntOp.andi_eq_one.1 h'
    simp only [IntOp.cmpi, WordArith.ofBool_eq_one_iff, BitVec.slt_eq_decide, BitVec.sle_eq_decide, decide_eq_true_eq] at h0 h1
    exact ⟨by simpa using h0, by simpa using h1⟩
  · have h' : IntOp.andi (BitVec.ofBool (decide (Ideal.ofBits .f32 0xFF800000#32 < x0 i))) (BitVec.ofBool (decide (x0 i < Ideal.ofBits .f32 0x7F800000#32))) = 1#1 :=
      Host.reduce_andi_all _ _ _ _ _ hb i
    obtain ⟨h0, h1⟩ := IntOp.andi_eq_one.1 h'
    have e1 : Ideal.ofBits .f32 0xFF800000#32 = ⊥ := by unfold Ideal.ofBits Ideal.ieee; simp
    have e2 : Ideal.ofBits .f32 0x7F800000#32 = ⊤ := by unfold Ideal.ofBits Ideal.ieee; simp
    simp only [WordArith.ofBool_eq_one_iff, decide_eq_true_eq, e1, e2] at h0 h1
    exact ⟨_, (EReal.coe_toReal h1.ne h0.ne').symm⟩

/-- The frames again, under the stronger precondition. -/
theorem quiescent_KernelIdeal_pre_finite_and_in_range : Cert.quiescent_KernelIdeal_pre_finite_and_in_range := fun m ρ hpre =>
  have hw := K.tilesAll_of m fun c i => (given_of_pre _ _ _ _ _ _ (hpre c)).1 i
  have h := K.run_main m ρ hw
  θ_run_and (Cert.KernelIdeal.Gen.frame_of m ρ (K.dats m hw) (K.A_eq m hw) (θ_run_mono h fun _ h => h.1)) (θ_run_mono h fun _ h => h.2)

theorem quiescent_ReferenceIdeal_pre_finite_and_in_range : Cert.quiescent_ReferenceIdeal_pre_finite_and_in_range := fun m ρ _ =>
  quiescent_ReferenceIdeal m ρ trivial

/-- What the reference's run leaves in the result and the arguments. -/
theorem run_ref (m : (ℓ : Loc Cert.ReferenceIdeal.nD Cert.ReferenceIdeal.τ Cert.ReferenceIdeal.sig) → Buf (Elt Ideal) ℓ) (c) :
    R.fin m c (Proc.devRef .tc Cert.ReferenceIdeal.main_v368) =
      R.resV (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) :=
  R.line_result _

/-- Over the extended reals the kernel and the reference end with equal results. -/
theorem algebraic : Cert.algebraic_KernelIdeal_ReferenceIdeal_pre_finite_and_in_range := by
  intro m g m' g' hpre hagree
  have hw := K.tilesAll_of m fun c i => (given_of_pre _ _ _ _ _ _ (hpre c)).1 i
  have hrun := K.run_main m g hw
  have hframe := Cert.KernelIdeal.Gen.frame_of m g (K.dats m hw) (K.A_eq m hw) (θ_run_mono hrun fun _ h => h.1)
  refine ⟨fun c => R.fin m' c (Proc.devRef .tc Cert.ReferenceIdeal.main_v368), ?_, ?_⟩
  · refine θ_run_mono (θ_run_and hrun hframe) fun r h c => ⟨?_, h.2 c⟩
    obtain ⟨a0, a1, a2, a3, a4, a5⟩ := hagree c
    have hv := (h.1.1.out_eq c 5 : _ = (K.dats m hw 0 c).arrAt 5 _)
    have hp := given_of_pre _ _ _ _ _ _ (hpre c)
    have hr := run_ref m' c
    rw [a0, a1, a2, a3, a4, a5] at hr
    exact hv.trans (((K.out_eq m c hw).trans (K.out_value m hw c _ hp.1 hp.2)).trans hr.symm)
  · exact θ_run_mono (R.run m' g') fun r h c => ⟨h c _, (h c _).trans (R.fin_arg0 m' c), (h c _).trans (R.fin_arg1 m' c), (h c _).trans (R.fin_arg2 m' c),
      (h c _).trans (R.fin_arg3 m' c), (h c _).trans (R.fin_arg4 m' c), (h c _).trans (R.fin_arg5 m' c)⟩

end Cert.Proof
end
-- ==== Proof.lean ====
module

public import proofs.«01_k».proof.Proof.Equal

@[expose] public section

noncomputable section

namespace Cert.Proof

open Idealize.ShloMosaic Idealize.SL.Sem

/-- All five claims: the frames, the ideal program and the equal results. -/
theorem claim : Cert.Claim := ⟨Cert.Kernel.Gen.facts, Cert.KernelIdeal.Gen.facts, Cert.ReferenceIdeal.Gen.facts, inferInstance, inferInstance,
  quiescent_Kernel, quiescent_KernelIdeal, quiescent_KernelIdeal_pre_finite_and_in_range, quiescent_ReferenceIdeal,
  quiescent_ReferenceIdeal_pre_finite_and_in_range, trivial, algebraic⟩

end Cert.Proof

end
